-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S2x4096x128 : Shape := ⟨3, ![2, 4096, 128]⟩
abbrev S3x256x1024 : Shape := ⟨3, ![3, 256, 1024]⟩
abbrev S7 : Shape := ⟨1, ![7]⟩
abbrev S3 : Shape := ⟨1, ![3]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S2x4096x128, .f32⟩
  | .local _ .vmem, ⟨5, _⟩ => ⟨S2x4096x128, .f32⟩
  | .local _ .vmem, ⟨6, _⟩ => ⟨S256x1024, .bf16⟩
  | .local _ .vmem, ⟨7, _⟩ => ⟨S3x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 2 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32_4 : BitVec 32) : Fin 4 → Nat :=
  let c0_i32_7 : BitVec 32 := 0#32
  let c0_i32_11 : BitVec 32 := 0#32
  let c2_i32 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.muli c2_i32 v2
  let v10 : BitVec 32 := Scalar.addi v9 c0_i32_4
  let c0_i32_12 : BitVec 32 := 0#32
  ![0, 0, v10.toNat, 0]
def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37 : BitVec 32 := 1#32
  let v44 : BitVec 32 := Scalar.addi v2 c1_i32_37
  let c4_i32_38 : BitVec 32 := 4#32
  let c0_i32_39 : BitVec 32 := 0#32
  let v45 : BitVec 1 := Scalar.cmpi .eq c4_i32_38 c0_i32_39
  let c1_i32_40 : BitVec 32 := 1#32
  let v46 : BitVec 32 := Scalar.select v45 c1_i32_40 c4_i32_38
  let v47 : BitVec 32 := Scalar.remsi v44 v46
  let c0_i32_42 : BitVec 32 := 0#32
  let v49 : BitVec 1 := Scalar.cmpi .slt v47 c0_i32_42
  let c0_i32_43 : BitVec 32 := 0#32
  let v50 : BitVec 1 := Scalar.cmpi .slt v46 c0_i32_43
  let v51 : BitVec 1 := Scalar.xori v49 v50
  let c0_i32_41 : BitVec 32 := 0#32
  let v48 : BitVec 1 := Scalar.cmpi .ne v47 c0_i32_41
  let v52 : BitVec 1 := Scalar.andi v51 v48
  let v53 : BitVec 32 := Scalar.addi v47 v46
  let v54 : BitVec 32 := Scalar.select v52 v53 v47
  let c1_i32_45 : BitVec 32 := 1#32
  let v55 : BitVec 32 := Scalar.muli v54 c1_i32_45
  let v56 : BitVec 32 := Scalar.addi c0_i32_46 v55
  v56.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_47 : BitVec 32 := 2#32
  let v57 : BitVec 32 := Scalar.addi v2 c2_i32_47
  let c4_i32_48 : BitVec 32 := 4#32
  let c0_i32_49 : BitVec 32 := 0#32
  let v58 : BitVec 1 := Scalar.cmpi .eq c4_i32_48 c0_i32_49
  let c1_i32_50 : BitVec 32 := 1#32
  let v59 : BitVec 32 := Scalar.select v58 c1_i32_50 c4_i32_48
  let v60 : BitVec 32 := Scalar.remsi v57 v59
  let c0_i32_52 : BitVec 32 := 0#32
  let v62 : BitVec 1 := Scalar.cmpi .slt v60 c0_i32_52
  let c0_i32_53 : BitVec 32 := 0#32
  let v63 : BitVec 1 := Scalar.cmpi .slt v59 c0_i32_53
  let v64 : BitVec 1 := Scalar.xori v62 v63
  let c0_i32_51 : BitVec 32 := 0#32
  let v61 : BitVec 1 := Scalar.cmpi .ne v60 c0_i32_51
  let v65 : BitVec 1 := Scalar.andi v64 v61
  let v66 : BitVec 32 := Scalar.addi v60 v59
  let v67 : BitVec 32 := Scalar.select v65 v66 v60
  let c1_i32_55 : BitVec 32 := 1#32
  let v68 : BitVec 32 := Scalar.muli v67 c1_i32_55
  let v69 : BitVec 32 := Scalar.addi c0_i32_56 v68
  v69.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v70 : BitVec 32 := Scalar.addi v2 c3_i32_57
  let c4_i32_58 : BitVec 32 := 4#32
  let c0_i32_59 : BitVec 32 := 0#32
  let v71 : BitVec 1 := Scalar.cmpi .eq c4_i32_58 c0_i32_59
  let c1_i32_60 : BitVec 32 := 1#32
  let v72 : BitVec 32 := Scalar.select v71 c1_i32_60 c4_i32_58
  let v73 : BitVec 32 := Scalar.remsi v70 v72
  let c0_i32_62 : BitVec 32 := 0#32
  let v75 : BitVec 1 := Scalar.cmpi .slt v73 c0_i32_62
  let c0_i32_63 : BitVec 32 := 0#32
  let v76 : BitVec 1 := Scalar.cmpi .slt v72 c0_i32_63
  let v77 : BitVec 1 := Scalar.xori v75 v76
  let c0_i32_61 : BitVec 32 := 0#32
  let v74 : BitVec 1 := Scalar.cmpi .ne v73 c0_i32_61
  let v78 : BitVec 1 := Scalar.andi v77 v74
  let v79 : BitVec 32 := Scalar.addi v73 v72
  let v80 : BitVec 32 := Scalar.select v78 v79 v73
  let c1_i32_65 : BitVec 32 := 1#32
  let v81 : BitVec 32 := Scalar.muli v80 c1_i32_65
  let v82 : BitVec 32 := Scalar.addi c0_i32_66 v81
  v82.toNat
def k0_dev4 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_154 : BitVec 32 := 1#32
  let v255 : BitVec 32 := Scalar.addi v2 c1_i32_154
  let c4_i32_155 : BitVec 32 := 4#32
  let c0_i32_156 : BitVec 32 := 0#32
  let v256 : BitVec 1 := Scalar.cmpi .eq c4_i32_155 c0_i32_156
  let c1_i32_157 : BitVec 32 := 1#32
  let v257 : BitVec 32 := Scalar.select v256 c1_i32_157 c4_i32_155
  let v258 : BitVec 32 := Scalar.remsi v255 v257
  let c0_i32_159 : BitVec 32 := 0#32
  let v260 : BitVec 1 := Scalar.cmpi .slt v258 c0_i32_159
  let c0_i32_160 : BitVec 32 := 0#32
  let v261 : BitVec 1 := Scalar.cmpi .slt v257 c0_i32_160
  let v262 : BitVec 1 := Scalar.xori v260 v261
  let c0_i32_158 : BitVec 32 := 0#32
  let v259 : BitVec 1 := Scalar.cmpi .ne v258 c0_i32_158
  let v263 : BitVec 1 := Scalar.andi v262 v259
  let v264 : BitVec 32 := Scalar.addi v258 v257
  let v265 : BitVec 32 := Scalar.select v263 v264 v258
  let c1_i32_164 : BitVec 32 := 1#32
  let v266 : BitVec 32 := Scalar.muli v265 c1_i32_164
  let v267 : BitVec 32 := Scalar.addi c0_i32_165 v266
  v267.toNat
def k0_dev5 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_168 : BitVec 32 := 2#32
  let v274 : BitVec 32 := Scalar.addi v2 c2_i32_168
  let c4_i32_169 : BitVec 32 := 4#32
  let c0_i32_170 : BitVec 32 := 0#32
  let v275 : BitVec 1 := Scalar.cmpi .eq c4_i32_169 c0_i32_170
  let c1_i32_171 : BitVec 32 := 1#32
  let v276 : BitVec 32 := Scalar.select v275 c1_i32_171 c4_i32_169
  let v277 : BitVec 32 := Scalar.remsi v274 v276
  let c0_i32_173 : BitVec 32 := 0#32
  let v279 : BitVec 1 := Scalar.cmpi .slt v277 c0_i32_173
  let c0_i32_174 : BitVec 32 := 0#32
  let v280 : BitVec 1 := Scalar.cmpi .slt v276 c0_i32_174
  let v281 : BitVec 1 := Scalar.xori v279 v280
  let c0_i32_172 : BitVec 32 := 0#32
  let v278 : BitVec 1 := Scalar.cmpi .ne v277 c0_i32_172
  let v282 : BitVec 1 := Scalar.andi v281 v278
  let v283 : BitVec 32 := Scalar.addi v277 v276
  let v284 : BitVec 32 := Scalar.select v282 v283 v277
  let c1_i32_178 : BitVec 32 := 1#32
  let v285 : BitVec 32 := Scalar.muli v284 c1_i32_178
  let v286 : BitVec 32 := Scalar.addi c0_i32_179 v285
  v286.toNat
def k0_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_182 : BitVec 32 := 3#32
  let v293 : BitVec 32 := Scalar.addi v2 c3_i32_182
  let c4_i32_183 : BitVec 32 := 4#32
  let c0_i32_184 : BitVec 32 := 0#32
  let v294 : BitVec 1 := Scalar.cmpi .eq c4_i32_183 c0_i32_184
  let c1_i32_185 : BitVec 32 := 1#32
  let v295 : BitVec 32 := Scalar.select v294 c1_i32_185 c4_i32_183
  let v296 : BitVec 32 := Scalar.remsi v293 v295
  let c0_i32_187 : BitVec 32 := 0#32
  let v298 : BitVec 1 := Scalar.cmpi .slt v296 c0_i32_187
  let c0_i32_188 : BitVec 32 := 0#32
  let v299 : BitVec 1 := Scalar.cmpi .slt v295 c0_i32_188
  let v300 : BitVec 1 := Scalar.xori v298 v299
  let c0_i32_186 : BitVec 32 := 0#32
  let v297 : BitVec 1 := Scalar.cmpi .ne v296 c0_i32_186
  let v301 : BitVec 1 := Scalar.andi v300 v297
  let v302 : BitVec 32 := Scalar.addi v296 v295
  let v303 : BitVec 32 := Scalar.select v301 v302 v296
  let c1_i32_192 : BitVec 32 := 1#32
  let v304 : BitVec 32 := Scalar.muli v303 c1_i32_192
  let v305 : BitVec 32 := Scalar.addi c0_i32_193 v304
  v305.toNat
def k0_dev7 (d0 : Dev nD) : Nat :=
  let c0_i32_255_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_246_r0 : BitVec 32 := 1#32
  let v358_r0 : BitVec 32 := Scalar.addi v2 c1_i32_246_r0
  let c4_i32_247_r0 : BitVec 32 := 4#32
  let c0_i32_248_r0 : BitVec 32 := 0#32
  let v359_r0 : BitVec 1 := Scalar.cmpi .eq c4_i32_247_r0 c0_i32_248_r0
  let c1_i32_249_r0 : BitVec 32 := 1#32
  let v360_r0 : BitVec 32 := Scalar.select v359_r0 c1_i32_249_r0 c4_i32_247_r0
  let v361_r0 : BitVec 32 := Scalar.remsi v358_r0 v360_r0
  let c0_i32_251_r0 : BitVec 32 := 0#32
  let v363_r0 : BitVec 1 := Scalar.cmpi .slt v361_r0 c0_i32_251_r0
  let c0_i32_252_r0 : BitVec 32 := 0#32
  let v364_r0 : BitVec 1 := Scalar.cmpi .slt v360_r0 c0_i32_252_r0
  let v365_r0 : BitVec 1 := Scalar.xori v363_r0 v364_r0
  let c0_i32_250_r0 : BitVec 32 := 0#32
  let v362_r0 : BitVec 1 := Scalar.cmpi .ne v361_r0 c0_i32_250_r0
  let v366_r0 : BitVec 1 := Scalar.andi v365_r0 v362_r0
  let v367_r0 : BitVec 32 := Scalar.addi v361_r0 v360_r0
  let v368_r0 : BitVec 32 := Scalar.select v366_r0 v367_r0 v361_r0
  let c1_i32_254_r0 : BitVec 32 := 1#32
  let v369_r0 : BitVec 32 := Scalar.muli v368_r0 c1_i32_254_r0
  let v370_r0 : BitVec 32 := Scalar.addi c0_i32_255_r0 v369_r0
  v370_r0.toNat
def k0_dev8 (d0 : Dev nD) : Nat :=
  let c0_i32_265_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_256_r0 : BitVec 32 := 2#32
  let v371_r0 : BitVec 32 := Scalar.addi v2 c2_i32_256_r0
  let c4_i32_257_r0 : BitVec 32 := 4#32
  let c0_i32_258_r0 : BitVec 32 := 0#32
  let v372_r0 : BitVec 1 := Scalar.cmpi .eq c4_i32_257_r0 c0_i32_258_r0
  let c1_i32_259_r0 : BitVec 32 := 1#32
  let v373_r0 : BitVec 32 := Scalar.select v372_r0 c1_i32_259_r0 c4_i32_257_r0
  let v374_r0 : BitVec 32 := Scalar.remsi v371_r0 v373_r0
  let c0_i32_261_r0 : BitVec 32 := 0#32
  let v376_r0 : BitVec 1 := Scalar.cmpi .slt v374_r0 c0_i32_261_r0
  let c0_i32_262_r0 : BitVec 32 := 0#32
  let v377_r0 : BitVec 1 := Scalar.cmpi .slt v373_r0 c0_i32_262_r0
  let v378_r0 : BitVec 1 := Scalar.xori v376_r0 v377_r0
  let c0_i32_260_r0 : BitVec 32 := 0#32
  let v375_r0 : BitVec 1 := Scalar.cmpi .ne v374_r0 c0_i32_260_r0
  let v379_r0 : BitVec 1 := Scalar.andi v378_r0 v375_r0
  let v380_r0 : BitVec 32 := Scalar.addi v374_r0 v373_r0
  let v381_r0 : BitVec 32 := Scalar.select v379_r0 v380_r0 v374_r0
  let c1_i32_264_r0 : BitVec 32 := 1#32
  let v382_r0 : BitVec 32 := Scalar.muli v381_r0 c1_i32_264_r0
  let v383_r0 : BitVec 32 := Scalar.addi c0_i32_265_r0 v382_r0
  v383_r0.toNat
def k0_dev9 (d0 : Dev nD) : Nat :=
  let c0_i32_275_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_266_r0 : BitVec 32 := 3#32
  let v384_r0 : BitVec 32 := Scalar.addi v2 c3_i32_266_r0
  let c4_i32_267_r0 : BitVec 32 := 4#32
  let c0_i32_268_r0 : BitVec 32 := 0#32
  let v385_r0 : BitVec 1 := Scalar.cmpi .eq c4_i32_267_r0 c0_i32_268_r0
  let c1_i32_269_r0 : BitVec 32 := 1#32
  let v386_r0 : BitVec 32 := Scalar.select v385_r0 c1_i32_269_r0 c4_i32_267_r0
  let v387_r0 : BitVec 32 := Scalar.remsi v384_r0 v386_r0
  let c0_i32_271_r0 : BitVec 32 := 0#32
  let v389_r0 : BitVec 1 := Scalar.cmpi .slt v387_r0 c0_i32_271_r0
  let c0_i32_272_r0 : BitVec 32 := 0#32
  let v390_r0 : BitVec 1 := Scalar.cmpi .slt v386_r0 c0_i32_272_r0
  let v391_r0 : BitVec 1 := Scalar.xori v389_r0 v390_r0
  let c0_i32_270_r0 : BitVec 32 := 0#32
  let v388_r0 : BitVec 1 := Scalar.cmpi .ne v387_r0 c0_i32_270_r0
  let v392_r0 : BitVec 1 := Scalar.andi v391_r0 v388_r0
  let v393_r0 : BitVec 32 := Scalar.addi v387_r0 v386_r0
  let v394_r0 : BitVec 32 := Scalar.select v392_r0 v393_r0 v387_r0
  let c1_i32_274_r0 : BitVec 32 := 1#32
  let v395_r0 : BitVec 32 := Scalar.muli v394_r0 c1_i32_274_r0
  let v396_r0 : BitVec 32 := Scalar.addi c0_i32_275_r0 v395_r0
  v396_r0.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x8x128 : Shape := ⟨4, ![1, 4096, 8, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S1x4096x8x4x128 : Shape := ⟨5, ![1, 4096, 8, 4, 128]⟩
abbrev S1x4096x32x128 : Shape := ⟨4, ![1, 4096, 32, 128]⟩
abbrev S1x32x256x4096 : Shape := ⟨4, ![1, 32, 256, 4096]⟩
abbrev S_ : Shape := ⟨0, ![]⟩
abbrev S1x32x256 : Shape := ⟨3, ![1, 32, 256]⟩
abbrev S1x32x256x1 : Shape := ⟨4, ![1, 32, 256, 1]⟩
abbrev S1x32x128x256 : Shape := ⟨4, ![1, 32, 128, 256]⟩
abbrev S1x256x32x1 : Shape := ⟨4, ![1, 256, 32, 1]⟩

abbrev nBuf : Space → Nat
  | .hbm => 31
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x8x128, .f32⟩
  | .hbm, ⟨3, _⟩ => ⟨S1x4096x8x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S1x4096x8x4x128, .f32⟩
  | .hbm, ⟨8, _⟩ => ⟨S1x4096x32x128, .f32⟩
  | .hbm, ⟨9, _⟩ => ⟨S1x4096x8x4x128, .f32⟩
  | .hbm, ⟨10, _⟩ => ⟨S1x4096x32x128, .f32⟩
  | .hbm, ⟨11, _⟩ => ⟨S1x32x256x4096, .f32⟩
  | .hbm, ⟨12, _⟩ => ⟨S_, .f32⟩
  | .hbm, ⟨13, _⟩ => ⟨S1x32x256x4096, .f32⟩
  | .hbm, ⟨14, _⟩ => ⟨S1x32x256x4096, .f32⟩
  | .hbm, ⟨15, _⟩ => ⟨S_, .f32⟩
  | .hbm, ⟨16, _⟩ => ⟨S1x32x256, .f32⟩
  | .hbm, ⟨17, _⟩ => ⟨S1x32x256x1, .f32⟩
  | .hbm, ⟨18, _⟩ => ⟨S1x32x256x4096, .f32⟩
  | .hbm, ⟨19, _⟩ => ⟨S1x32x256x4096, .f32⟩
  | .hbm, ⟨20, _⟩ => ⟨S1x32x256x4096, .f32⟩
  | .hbm, ⟨21, _⟩ => ⟨S_, .f32⟩
  | .hbm, ⟨22, _⟩ => ⟨S1x32x256, .f32⟩
  | .hbm, ⟨23, _⟩ => ⟨S1x32x256x1, .f32⟩
  | .hbm, ⟨24, _⟩ => ⟨S1x32x128x256, .f32⟩
  | .hbm, ⟨25, _⟩ => ⟨S1x256x32x128, .f32⟩
  | .hbm, ⟨26, _⟩ => ⟨S1x256x32x1, .f32⟩
  | .hbm, ⟨27, _⟩ => ⟨S1x256x32x128, .f32⟩
  | .hbm, ⟨28, _⟩ => ⟨S1x256x32x128, .f32⟩
  | .hbm, ⟨29, _⟩ => ⟨S1x256x4096, .f32⟩
  | .hbm, ⟨30, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Device.lean ====
/-
# What one device computes

Device `c` reads the whole `x`, its block of columns of the query weights and its block of rows of the output weights, and
the two heads of keys and of values its eight query heads attend to. `partialOut` is its partial product (before the
exchange), `sentOut` what it sends, `total` its result. The operations are the kernel's payloads in the kernel's order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (c : Dev nD)

/-- The input `x`, its unit batch axis dropped. -/
def xIn : Vec F S256x1024 .f32 :=
  (((Memref.whole main_arg0).slice (Rect.unit (s := S1x256x1024) ![0, 0, 0] S1x256x1024.size inb_S1x256x1024_S1x256x1024_0_0_0) (fun _ => rfl)).squeeze S256x1024 squeezes_S1x256x1024_S256x1024).view.read
    (Elt F) (m ((c : Thread nD τ).loc main_arg0))
/-- The block of the query weights. -/
def wqIn : Vec F S1024x1024 .f32 := m ((c : Thread nD τ).loc main_arg1)
/-- The block of the output weights. -/
def woIn : Vec F S1024x1024 .f32 := m ((c : Thread nD τ).loc main_arg4)
/-- Head `2 c + r` of the keys. -/
def kIn (r : Fin 2) : Vec F S4096x128 .f32 :=
  (((Memref.whole main_arg2).slice (Rect.unit (s := S1x4096x8x128) (k0_off1 c (BitVec.ofNat 32 r.val)) S1x4096x1x128.size (k0_off1_inb c r)) (fun _ => rfl)).squeeze S4096x128 squeezes_S1x4096x1x128_S4096x128).view.read
    (Elt F) (m ((c : Thread nD τ).loc main_arg2))
/-- Head `2 c + r` of the values. -/
def vIn (r : Fin 2) : Vec F S4096x128 .f32 :=
  (((Memref.whole main_arg3).slice (Rect.unit (s := S1x4096x8x128) (k0_off1 c (BitVec.ofNat 32 r.val)) S1x4096x1x128.size (k0_off1_inb c r)) (fun _ => rfl)).squeeze S4096x128 squeezes_S1x4096x1x128_S4096x128).view.read
    (Elt F) (m ((c : Thread nD τ).loc main_arg3))

/-- The scaled queries of the device's eight heads side by side. -/
def queries : FVec F S256x1024 .bf16 := k0_pay1 (xIn m c) (wqIn m c)
def keys (r : Fin 2) : FVec F S4096x128 .bf16 := truncf .bf16 (kIn m c r) bitsLt_bf16_f32
def vals (r : Fin 2) : FVec F S4096x128 .bf16 := truncf .bf16 (vIn m c r) bitsLt_bf16_f32

/-- The eight heads' outputs side by side times the output weights. -/
def partialOf (q : FVec F S256x1024 .bf16) (k₀ v₀ k₁ v₁ : FVec F S4096x128 .bf16) (wo : Vec F S1024x1024 .f32) : FVec F S256x1024 .f32 :=
  k0_pay18 (k0_pay6 q k₀ v₀) (k0_pay8 v₀ (k0_pay7 q k₀)) (k0_pay9 q k₀ v₀) (k0_pay10 q k₀ v₀)
    (k0_pay12 v₁ (k0_pay11 q k₁)) (k0_pay13 q k₁ v₁) (k0_pay14 q k₁ v₁) (k0_pay16 q k₁ v₁) (k0_pay17 q k₁) wo

def partialOut : FVec F S256x1024 .f32 := partialOf (queries m c) (keys m c 0) (vals m c 0) (keys m c 1) (vals m c 1) (woIn m c)
def sentOut : FVec F S256x1024 .bf16 :=
  shapeCast S256x1024 (truncf .bf16 (partialOut m c) bitsLt_bf16_f32) shapeCasts_S256x1024_S256x1024

/-- A partial product and the three received ones, added in the order of the kernel. -/
def totalOf (p : FVec F S256x1024 .f32) (r₀ r₁ r₂ : FVec F S256x1024 .bf16) : FVec F S1x256x1024 .f32 :=
  shapeCast S1x256x1024 (addf (addf (addf p (extf .f32 r₀ bitsLt_bf16_f32)) (extf .f32 r₁ bitsLt_bf16_f32)) (extf .f32 r₂ bitsLt_bf16_f32))
    shapeCasts_S256x1024_S1x256x1024

end Cert.KernelIdeal.Exchange
-- ==== Proof.Exchange.lean ====
/-
# The exchange between the four devices: what each semaphore hands over

Every device computes a partial product, sends it (rounded to `bf16`) to the three others, and adds what it receives.
Device `c` reaches the others at the distances 1, 2 and 3 around the ring of four; distance `d + 1` is written `d : Fin 3`.

* The barrier cell of a device has three duties of one unit, one per other device. The device that pays duty `d` is the
  one `c` will write to at the opposite distance, and it hands `c` the slot of its landing buffer that `c` will fill.
* The receive cell `d` has one duty of the transfer's amount: the slot `d` of the landing buffer, filled with what the
  device `d + 1` steps back sent.
* The send cell `d` has one duty of the same amount: a third of the share of the send buffer lent to that transfer.
* The exit cell has three duties of one unit, handing nothing over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are the three distances -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds: the left half of the right factor (the right half counts the local loads). -/
def EX : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance EX_landsIn : (EX : Emb UX 𝕄).LandsIn (upEmb : UEmb _ 𝕄) := by unfold EX; infer_instance

variable (m : (ℓ : Loc nD τ sig) → Buf (Elt F) ℓ) (sent : Dev nD → (cc0_scratch5 : Ref sig .tc).ty.Contents (Elt F))

/-! ## The devices -/

set_option backward.proofsInPublic true in
/-- The device `d + 1` steps ahead of `c`. -/
def peer (c : Dev nD) (d : Fin 3) : Dev nD := ⟨(c.val + d.val + 1) % 4, Nat.mod_lt _ (by decide)⟩
/-- The distance that leads back: `d + 1` ahead is `rev d + 1` behind. -/
abbrev rev (d : Fin 3) : Fin 3 := Fin.rev d

theorem peer_rev (c : Dev nD) (d : Fin 3) : peer (peer c d) (rev d) = c := by revert c d; decide
theorem rev_peer (c : Dev nD) (d : Fin 3) : peer (peer c (rev d)) d = c := by revert c d; decide

/-- Moving every device `d + 1` steps ahead is a bijection. -/
def turn (d : Fin 3) : Dev nD ≃ Dev nD := ⟨fun c => peer c d, fun c => peer c (rev d), fun c => peer_rev c d, fun c => rev_peer c d⟩

/-- The devices the kernel's operations name. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel
theorem dev7_eq (c : Dev nD) : (⟨k0_dev7 c, k0_dev7_lt c⟩ : Dev nD) = peer c 0 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 2 := by revert c; decide +kernel

/-! ## The semaphores and buffers -/

abbrev barS : Sem sig := (SemArray.scalar (sig.barrier 0 rfl) : Sems sig S_).sem
abbrev exitS : Sem sig := cc0_scoped0.sem
abbrev sendS : Fin 3 → DmaSem sig := fun
  | 0 => ((cc0_scratch8.slice (Rect.unit (s := S3) ![0] S1.size inb_S3_S1_0)).squeeze S_ squeezes_S1_S_).sem
  | 1 => ((cc0_scratch8.slice (Rect.unit (s := S3) ![1] S1.size inb_S3_S1_1)).squeeze S_ squeezes_S1_S_).sem
  | 2 => ((cc0_scratch8.slice (Rect.unit (s := S3) ![2] S1.size inb_S3_S1_2)).squeeze S_ squeezes_S1_S_).sem
abbrev recvS : Fin 3 → DmaSem sig := fun
  | 0 => ((cc0_scratch9.slice (Rect.unit (s := S3) ![0] S1.size inb_S3_S1_0)).squeeze S_ squeezes_S1_S_).sem
  | 1 => ((cc0_scratch9.slice (Rect.unit (s := S3) ![1] S1.size inb_S3_S1_1)).squeeze S_ squeezes_S1_S_).sem
  | 2 => ((cc0_scratch9.slice (Rect.unit (s := S3) ![2] S1.size inb_S3_S1_2)).squeeze S_ squeezes_S1_S_).sem

abbrev barCell (c : Dev nD) : GSem nD τ sig := ((c : Thread nD τ), .reg barS)
abbrev exitCell (c : Dev nD) : GSem nD τ sig := ((c : Thread nD τ), .reg exitS)
abbrev sendCell (c : Dev nD) (d : Fin 3) : GSem nD τ sig := ((c : Thread nD τ), .dma (sendS d))
abbrev recvCell (c : Dev nD) (d : Fin 3) : GSem nD τ sig := ((c : Thread nD τ), .dma (recvS d))

/-- The send buffer. -/
abbrev sM : Memref sig .tc .vmem S256x1024 .bf16 := Memref.whole cc0_scratch5
/-- The slots of the landing buffer. -/
abbrev slot : Fin 3 → Memref sig .tc .vmem S256x1024 .bf16 := fun
  | 0 => ((Memref.whole cc0_scratch6).slice (Rect.unit (s := S3x256x1024) ![0, 0, 0] S1x256x1024.size inb_S3x256x1024_S1x256x1024_0_0_0) (fun _ => rfl)).squeeze S256x1024 squeezes_S1x256x1024_S256x1024
  | 1 => ((Memref.whole cc0_scratch6).slice (Rect.unit (s := S3x256x1024) ![1, 0, 0] S1x256x1024.size inb_S3x256x1024_S1x256x1024_1_0_0) (fun _ => rfl)).squeeze S256x1024 squeezes_S1x256x1024_S256x1024
  | 2 => ((Memref.whole cc0_scratch6).slice (Rect.unit (s := S3x256x1024) ![2, 0, 0] S1x256x1024.size inb_S3x256x1024_S1x256x1024_2_0_0) (fun _ => rfl)).squeeze S256x1024 squeezes_S1x256x1024_S256x1024

/-- The units one transfer credits. -/
abbrev N : ℕ := (slot 0).view.dmaCredit
theorem N_pos : 0 < N := View.dmaCredit_pos _ (by decide)
theorem N_eq (d : Fin 3) : (slot d).view.dmaCredit = N := by fin_cases d <;> rfl

/-! ## What the semaphores hand over -/

/-- The share of the send buffer that transfer `d` borrows; the three make the whole. -/
abbrev third : Fin 3 → PosShare TreeShare := fun
  | 0 => fullShare.left
  | 1 => fullShare.right.left
  | 2 => fullShare.right.right

/-- Slot `d` of device `c`'s landing buffer, held outright. -/
abbrev slotPts (c : Dev nD) (d : Fin 3) (f : Buf (Elt F) ((slot d).view.loc (c : Thread nD τ))) : sProp 𝕄 :=
  (slot d).view.loc (c : Thread nD τ) ↦[(slot d).view.set]{fullShare} f

/-- What slot `d` of device `c` holds once filled: what the device `d + 1` steps back sent. -/
def landed (c : Dev nD) (d : Fin 3) : Buf (Elt F) ((slot d).view.loc (c : Thread nD τ)) :=
  (slot d).view.write (Elt F) (m ((slot d).view.loc (c : Thread nD τ))) (sent (peer c (rev d))) Finset.univ

/-- The share of the send buffer transfer `d` gives back. -/
abbrev lentPts (c : Dev nD) (d : Fin 3) : sProp 𝕄 :=
  (sM : Memref sig .tc .vmem S256x1024 .bf16).view.loc (c : Thread nD τ) ↦[(sM : Memref sig .tc .vmem S256x1024 .bf16).view.set]{third d} sent c

/-- Duty `d` of device `c`'s barrier cell: the slot that `c` fills on the device `d + 1` steps back, and that this device
    has reached round 0 of the receive cell. -/
def barPay (c : Dev nD) (d : Fin 3) : sProp 𝕄 :=
  iprop((∃ f, slotPts (peer c (rev d)) (rev d) f) ∗ reached EX (recvCell (peer c (rev d)) (rev d)) 0)

/-- The cells that count units of the transfers' amount. -/
abbrev IsXfer (sm : SemLoc sig) : Prop := (∃ d, sm = .dma (sendS d)) ∨ ∃ d, sm = .dma (recvS d)

/-- One round, round 0: a barrier or exit cell has the three duties of one unit each; a send or receive cell the duty `0`
    of the transfer's amount. -/
def sched : Rounds.Schedule (GSem nD τ sig) (Fin 3) 𝕄 where
  duties g r :=
    if r = 0 ∧ g.1.2 = .tc ∧ (g.2 = .reg barS ∨ g.2 = .reg exitS) then Finset.univ
    else if r = 0 ∧ g.1.2 = .tc ∧ IsXfer g.2 then {0} else ∅
  unitless _ := False
  amount g _ _ := if g.2 = .reg barS ∨ g.2 = .reg exitS then 1 else N
  payload g _ d :=
    if g.2 = .reg barS then barPay g.1.1 d
    else if g.2 = .dma (recvS 0) then slotPts g.1.1 0 (landed m sent g.1.1 0)
    else if g.2 = .dma (recvS 1) then slotPts g.1.1 1 (landed m sent g.1.1 1)
    else if g.2 = .dma (recvS 2) then slotPts g.1.1 2 (landed m sent g.1.1 2)
    else if g.2 = .dma (sendS 0) then lentPts sent g.1.1 0
    else if g.2 = .dma (sendS 1) then lentPts sent g.1.1 1
    else if g.2 = .dma (sendS 2) then lentPts sent g.1.1 2
    else iprop(emp)
  amount_pos g _ _ _ := by
    by_cases h : g.2 = .reg barS ∨ g.2 = .reg exitS
    · rw [if_pos h]; exact Nat.one_pos
    · rw [if_neg h]; exact N_pos

instance sched_payload_storable (g : GSem nD τ sig) (r : ℕ) (d : Fin 3) :
    BI.Storable (upEmb : UEmb _ 𝕄) ((sched (F := F) m sent).payload g r d) := by
  unfold sched
  dsimp only
  unfold barPay
  (repeat' split) <;> infer_instance

section Tables
variable (c : Dev nD)

theorem duties_bar : (sched (F := F) m sent).duties (barCell c) 0 = Finset.univ := by
  dsimp only [sched]; exact if_pos ⟨rfl, rfl, .inl rfl⟩
theorem duties_exit : (sched (F := F) m sent).duties (exitCell c) 0 = Finset.univ := by
  dsimp only [sched]; exact if_pos ⟨rfl, rfl, .inr rfl⟩
theorem not_reg (q : DmaSem sig) : ¬ ((SemLoc.dma q : SemLoc sig) = .reg barS ∨ (SemLoc.dma q : SemLoc sig) = .reg exitS) := fun h =>
  h.elim (fun h => by cases h) (fun h => by cases h)
theorem duties_send (d : Fin 3) : (sched (F := F) m sent).duties (sendCell c d) 0 = {0} := by
  dsimp only [sched]; rw [if_neg fun h => not_reg _ h.2.2]; exact if_pos ⟨rfl, rfl, .inl ⟨d, rfl⟩⟩
theorem duties_recv (d : Fin 3) : (sched (F := F) m sent).duties (recvCell c d) 0 = {0} := by
  dsimp only [sched]; rw [if_neg fun h => not_reg _ h.2.2]; exact if_pos ⟨rfl, rfl, .inr ⟨d, rfl⟩⟩
theorem duties_later (g : GSem nD τ sig) : ∀ r, 1 ≤ r → (sched (F := F) m sent).duties g r = ∅ := fun r hr => by
  dsimp only [sched]; rw [if_neg fun h => by omega, if_neg fun h => by omega]

theorem amount_bar (d : Fin 3) : (sched (F := F) m sent).amount (barCell c) 0 d = 1 := by dsimp only [sched]; exact if_pos (.inl rfl)
theorem amount_exit (d : Fin 3) : (sched (F := F) m sent).amount (exitCell c) 0 d = 1 := by dsimp only [sched]; exact if_pos (.inr rfl)
theorem amount_send (e d : Fin 3) : (sched (F := F) m sent).amount (sendCell c e) 0 d = N := by dsimp only [sched]; exact if_neg (not_reg _)
theorem amount_recv (e d : Fin 3) : (sched (F := F) m sent).amount (recvCell c e) 0 d = N := by dsimp only [sched]; exact if_neg (not_reg _)

theorem expect_bar : (sched (F := F) m sent).expect (barCell c) 0 = 3 := by
  unfold Schedule.expect Schedule.amountOf
  rw [duties_bar, Finset.sum_congr rfl fun d _ => amount_bar m sent c d]; rfl
theorem expect_exit : (sched (F := F) m sent).expect (exitCell c) 0 = 3 := by
  unfold Schedule.expect Schedule.amountOf
  rw [duties_exit, Finset.sum_congr rfl fun d _ => amount_exit m sent c d]; rfl
theorem expect_send (d : Fin 3) : (sched (F := F) m sent).expect (sendCell c d) 0 = N := by
  unfold Schedule.expect Schedule.amountOf; rw [duties_send, Finset.sum_singleton, amount_send]
theorem expect_recv (d : Fin 3) : (sched (F := F) m sent).expect (recvCell c d) 0 = N := by
  unfold Schedule.expect Schedule.amountOf; rw [duties_recv, Finset.sum_singleton, amount_recv]

theorem payload_bar (d : Fin 3) : (sched (F := F) m sent).payload (barCell c) 0 d = barPay c d := by
  dsimp only [sched]; exact if_pos rfl
theorem exit_ne_bar : (SemLoc.reg exitS : SemLoc sig) ≠ .reg barS := by decide
theorem recv_ne (d e : Fin 3) (h : d ≠ e) : (SemLoc.dma (recvS d) : SemLoc sig) ≠ .dma (recvS e) := by revert d e; decide
theorem send_ne (d e : Fin 3) (h : d ≠ e) : (SemLoc.dma (sendS d) : SemLoc sig) ≠ .dma (sendS e) := by revert d e; decide
theorem send_ne_recv (d e : Fin 3) : (SemLoc.dma (sendS d) : SemLoc sig) ≠ .dma (recvS e) := by revert d e; decide
theorem payload_exit (d : Fin 3) : (sched (F := F) m sent).payload (exitCell c) 0 d = iprop(emp) := by
  dsimp only [sched]
  rw [if_neg exit_ne_bar, if_neg (by simp), if_neg (by simp), if_neg (by simp), if_neg (by simp), if_neg (by simp), if_neg (by simp)]
theorem payload_recv (d e : Fin 3) : (sched (F := F) m sent).payload (recvCell c d) 0 e = slotPts c d (landed m sent c d) := by
  dsimp only [sched]
  rw [if_neg (by simp)]
  match d with
  | 0 => rw [if_pos rfl]
  | 1 => rw [if_neg (recv_ne 1 0 (by decide)), if_pos rfl]
  | 2 => rw [if_neg (recv_ne 2 0 (by decide)), if_neg (recv_ne 2 1 (by decide)), if_pos rfl]
/-- What transfer `d` writes into the slot, over whatever was there, is what the receiver is handed. -/
theorem landed_of (c : Dev nD) (d : Fin 3) (fd : Buf (Elt F) ((slot d).view.loc (peer c d : Thread nD τ))) :
    slotPts (peer c d) d ((slot d).view.write (Elt F) fd ((sM : Memref sig .tc .vmem S256x1024 .bf16).view.read (Elt F) (sent c)) Finset.univ)
      = slotPts (F := F) (peer c d) d (landed m sent (peer c d) d) := by
  unfold landed
  rw [peer_rev]
  exact View.pointsTo_write_univ_congr (peer c d : Thread nD τ) (slot d).view fullShare fd _ _
theorem payload_send (d e : Fin 3) : (sched (F := F) m sent).payload (sendCell c d) 0 e = lentPts sent c d := by
  dsimp only [sched]
  rw [if_neg (by simp), if_neg (send_ne_recv d 0), if_neg (send_ne_recv d 1), if_neg (send_ne_recv d 2)]
  match d with
  | 0 => rw [if_pos rfl]
  | 1 => rw [if_neg (send_ne 1 0 (by decide)), if_pos rfl]
  | 2 => rw [if_neg (send_ne 2 0 (by decide)), if_neg (send_ne 2 1 (by decide)), if_pos rfl]

end Tables

/-! ## What each device owes at launch, and the levels -/

/-- Device `c` owes every other device one unit on its exit cell, a transfer's amount on its receive cell and one unit on
    its barrier cell; summed so that the body pays the last summand first. -/
def OE₁ (c : Dev nD) : CellTallies nD τ sig Unit := tallyAt (exitCell (peer c 2)) () 1
def OE₂ (c : Dev nD) : CellTallies nD τ sig Unit := OE₁ c + tallyAt (exitCell (peer c 1)) () 1
def OE₃ (c : Dev nD) : CellTallies nD τ sig Unit := OE₂ c + tallyAt (exitCell (peer c 0)) () 1
def OR₁ (c : Dev nD) : CellTallies nD τ sig Unit := OE₃ c + tallyAt (recvCell (peer c 2) 2) () N
def OR₂ (c : Dev nD) : CellTallies nD τ sig Unit := OR₁ c + tallyAt (recvCell (peer c 1) 1) () N
def OR₃ (c : Dev nD) : CellTallies nD τ sig Unit := OR₂ c + tallyAt (recvCell (peer c 0) 0) () N
def OB₁ (c : Dev nD) : CellTallies nD τ sig Unit := OR₃ c + tallyAt (barCell (peer c 2)) () 1
def OB₂ (c : Dev nD) : CellTallies nD τ sig Unit := OB₁ c + tallyAt (barCell (peer c 1)) () 1
def O₀ (c : Dev nD) : CellTallies nD τ sig Unit := OB₂ c + tallyAt (barCell (peer c 0)) () 1

def L (g : GSem nD τ sig) : Finset Unit := if g.1.2 = .tc then {()} else ∅
/-- Barrier cells at 1, receive cells at 2, exit cells at 3, every other cell at 0. -/
def lv (g : GSem nD τ sig) (_ : Unit) : ℕ :=
  if g.2 = .reg barS then 1 else if ∃ d, g.2 = .dma (recvS d) then 2 else if g.2 = .reg exitS then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (d : Fin 3) : lv (recvCell c d) () = 2 := (if_neg fun h => by cases h).trans (if_pos ⟨d, rfl⟩)
theorem lv_exit (c : Dev nD) : lv (exitCell c) () = 3 :=
  (if_neg exit_ne_bar).trans ((if_neg fun ⟨_, h⟩ => by cases h).trans (if_pos rfl))
theorem lv_low (c : Dev nD) (q : DmaSem sig) (hq : ∀ d, q ≠ recvS d) : lv ((c : Thread nD τ), .dma q) () = 0 :=
  (if_neg fun h => by cases h).trans ((if_neg fun ⟨d, h⟩ => hq d (by cases h; rfl)).trans (if_neg fun h => by cases h))

/-- Everything in `O` is on cells of TensorCores at levels above `n`. -/
def Above (n : ℕ) (O : CellTallies nD τ sig Unit) : Prop := ∀ (g : GSem nD τ sig) (u : Unit), 0 < O g u → u ∈ L g ∧ n < lv g u

theorem above_at {n : ℕ} (c : Dev nD) (sm : SemLoc sig) (k : ℕ) (h : n < lv ((c : Thread nD τ), sm) ()) :
    Above n (tallyAt ((c : Thread nD τ), sm) () k) := fun g u hg => by
  obtain ⟨rfl, rfl⟩ := Pipeline.tallyAt_pos hg
  exact ⟨by rw [L_tc]; exact Finset.mem_singleton_self _, h⟩
theorem above_add {n : ℕ} {O D : CellTallies nD τ sig Unit} (h₁ : Above n O) (h₂ : Above n D) : Above n (O + D) := fun g u hg =>
  (Pipeline.add_pos_cases hg).elim (h₁ g u) (h₂ g u)
theorem above_mono {n k : ℕ} (hk : k ≤ n) {O : CellTallies nD τ sig Unit} (h : Above n O) : Above k O := fun g u hg =>
  ⟨(h g u hg).1, lt_of_le_of_lt hk (h g u hg).2⟩

theorem above_OE₁ (c : Dev nD) : Above 2 (OE₁ c) := above_at _ _ _ (by rw [lv_exit]; decide)
theorem above_OE₂ (c : Dev nD) : Above 2 (OE₂ c) := above_add (above_OE₁ c) (above_at _ _ _ (by rw [lv_exit]; decide))
theorem above_OE₃ (c : Dev nD) : Above 2 (OE₃ c) := above_add (above_OE₂ c) (above_at _ _ _ (by rw [lv_exit]; decide))
theorem above_OR₁ (c : Dev nD) : Above 1 (OR₁ c) :=
  above_add (above_mono (by decide) (above_OE₃ c)) (above_at _ _ _ (by rw [lv_recv]; decide))
theorem above_OR₂ (c : Dev nD) : Above 1 (OR₂ c) := above_add (above_OR₁ c) (above_at _ _ _ (by rw [lv_recv]; decide))
theorem above_OR₃ (c : Dev nD) : Above 1 (OR₃ c) := above_add (above_OR₂ c) (above_at _ _ _ (by rw [lv_recv]; decide))
theorem above_OB₁ (c : Dev nD) : Above 0 (OB₁ c) :=
  above_add (above_mono (by decide) (above_OR₃ c)) (above_at _ _ _ (by rw [lv_bar]; decide))
theorem above_OB₂ (c : Dev nD) : Above 0 (OB₂ c) := above_add (above_OB₁ c) (above_at _ _ _ (by rw [lv_bar]; decide))
theorem above_O₀ (c : Dev nD) : Above 0 (O₀ c) := above_add (above_OB₂ c) (above_at _ _ _ (by rw [lv_bar]; decide))
theorem above_zero (n : ℕ) : Above n 0 := fun g u hg => absurd hg (Nat.lt_irrefl 0)

/-- A device may wait on a cell whose level everything it owes is above. -/
theorem mayWait (c : Dev nD) (sm : SemLoc sig) (n : ℕ) (hn : lv ((c : Thread nD τ), sm) () ≤ n) (O : CellTallies nD τ sig Unit)
    (hO : Above n O) : (levAts L lv : sProp 𝕄) ⊢ MayWait (c : Thread nD τ) sm () O :=
  Pipeline.mayWait_of_levAts (by rw [L_tc]; exact Finset.mem_singleton_self _)
    fun g u hg => ⟨(hO g u hg).1, lt_of_le_of_lt hn (hO g u hg).2⟩

end Cert.KernelIdeal.Exchange

end
-- ==== Proof.Body.lean ====
module

public import proofs.«01_k».proof.Proof.Device
public import proofs.«01_k».proof.Proof.Exchange

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (sent : Dev nD → (cc0_scratch5 : Ref sig .tc).ty.Contents (Elt F))

attribute [local sl_rounds] duties_bar duties_exit duties_send duties_recv amount_bar amount_exit amount_send amount_recv
  expect_bar expect_exit expect_send expect_recv payload_bar payload_exit payload_recv payload_send

abbrev 𝒱₀ : Variants := Variants.none

/-- A whole buffer of a device held outright. -/
abbrev buf (c : Dev nD) (b : Ref sig .tc) (f : Buf (Elt F) ((Memref.whole b : Memref sig .tc _ _ _).view.loc (c : Thread nD τ))) : sProp 𝕄 :=
  (Memref.whole b : Memref sig .tc _ _ _).view.loc (c : Thread nD τ) ↦{fullShare} f

/-- The counter of one of the seven load semaphores. -/
abbrev loadS : Fin 7 → DmaSem sig := fun
  | 0 => ((cc0_scratch7.slice (Rect.unit (s := S7) ![0] S1.size inb_S7_S1_0)).squeeze S_ squeezes_S1_S_).sem
  | 1 => ((cc0_scratch7.slice (Rect.unit (s := S7) ![1] S1.size inb_S7_S1_1)).squeeze S_ squeezes_S1_S_).sem
  | 2 => ((cc0_scratch7.slice (Rect.unit (s := S7) ![2] S1.size inb_S7_S1_2)).squeeze S_ squeezes_S1_S_).sem
  | 3 => ((cc0_scratch7.slice (Rect.unit (s := S7) ![3] S1.size inb_S7_S1_3)).squeeze S_ squeezes_S1_S_).sem
  | 4 => ((cc0_scratch7.slice (Rect.unit (s := S7) ![4] S1.size inb_S7_S1_4)).squeeze S_ squeezes_S1_S_).sem
  | 5 => ((cc0_scratch7.slice (Rect.unit (s := S7) ![5] S1.size inb_S7_S1_5)).squeeze S_ squeezes_S1_S_).sem
  | 6 => ((cc0_scratch7.slice (Rect.unit (s := S7) ![6] S1.size inb_S7_S1_6)).squeeze S_ squeezes_S1_S_).sem
theorem loadS_ne_recvS (i : Fin 7) (d : Fin 3) : loadS i ≠ recvS d := by revert i d; decide
theorem mayWait_load (c : Dev nD) (i : Fin 7) (n : ℕ) (O : CellTallies nD τ sig Unit) (hO : Above n O) :
    (levAts L lv : sProp 𝕄) ⊢ MayWait (c : Thread nD τ) (.dma (loadS i)) () O :=
  mayWait c _ 0 (le_of_eq (lv_low c _ (loadS_ne_recvS i))) O (above_mono (Nat.zero_le _) hO)

/-- The two halves of the buffer the device's two heads of keys are loaded into. -/
abbrev kSlot : Fin 2 → Memref sig .tc .vmem S4096x128 .f32 := fun
  | 0 => ((Memref.whole cc0_scratch3).slice (Rect.unit (s := S2x4096x128) ![0, 0, 0] S1x4096x128.size inb_S2x4096x128_S1x4096x128_0_0_0) (fun _ => rfl)).squeeze S4096x128 squeezes_S1x4096x128_S4096x128
  | 1 => ((Memref.whole cc0_scratch3).slice (Rect.unit (s := S2x4096x128) ![1, 0, 0] S1x4096x128.size inb_S2x4096x128_S1x4096x128_1_0_0) (fun _ => rfl)).squeeze S4096x128 squeezes_S1x4096x128_S4096x128
/-- The two halves of the buffer the values are loaded into. -/
abbrev vSlot : Fin 2 → Memref sig .tc .vmem S4096x128 .f32 := fun
  | 0 => ((Memref.whole cc0_scratch4).slice (Rect.unit (s := S2x4096x128) ![0, 0, 0] S1x4096x128.size inb_S2x4096x128_S1x4096x128_0_0_0) (fun _ => rfl)).squeeze S4096x128 squeezes_S1x4096x128_S4096x128
  | 1 => ((Memref.whole cc0_scratch4).slice (Rect.unit (s := S2x4096x128) ![1, 0, 0] S1x4096x128.size inb_S2x4096x128_S1x4096x128_1_0_0) (fun _ => rfl)).squeeze S4096x128 squeezes_S1x4096x128_S4096x128
/-- One of those halves held outright. -/
abbrev part (c : Dev nD) (v : Memref sig .tc .vmem S4096x128 .f32) (f : Buf (Elt F) (v.view.loc (c : Thread nD τ))) : sProp 𝕄 :=
  v.view.loc (c : Thread nD τ) ↦[v.view.set]{fullShare} f
/-- Half the share of a whole buffer. -/
abbrev half (c : Dev nD) (b : Ref sig .tc) (q : PosShare TreeShare) (f : Buf (Elt F) ((Memref.whole b : Memref sig .tc _ _ _).view.loc (c : Thread nD τ))) : sProp 𝕄 :=
  (Memref.whole b : Memref sig .tc _ _ _).view.loc (c : Thread nD τ) ↦{q} f

/-- The kernel's body over its whole buffers. -/
abbrev kernelBody : Prog (TpuEff nD τ sig (Elt F) Λ₀ .tc) PUnit :=
  cc0_body (Memref.whole main_arg0) (Memref.isWhole_whole _) (Memref.whole main_arg1) (Memref.isWhole_whole _) (Memref.whole main_arg4) (Memref.isWhole_whole _)
    (Memref.whole main_arg2) (Memref.isWhole_whole _) (Memref.whole main_arg3) (Memref.isWhole_whole _) (Memref.whole cc0_stg0_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9 cc0_scoped0

variable (K : Dev nD × Fin 8 → ℕ)

/-! ## Loads of what a transfer filled -/

/-- Loading a half of the keys' or values' buffer after it was filled gives what it was filled with. -/
theorem read_kSlot₀ (x : Vec F S4096x128 .f32) :
    shapeCast S4096x128 ((Memref.whole cc0_scratch3 : Memref sig .tc .vmem S2x4096x128 .f32).view.readAt (Elt F)
      (Rect.unit (s := S2x4096x128) ![0, 0, 0] S1x4096x128.size inb_S2x4096x128_S1x4096x128_0_0_0).toLoadRect
      ((kSlot 0).view.writes (Elt F) (kSlot 0).view.junk [⟨Rect.whole S4096x128, x⟩])) shapeCasts_S1x4096x128_S4096x128 = x :=
  show (kSlot 0).view.read (Elt F) ((kSlot 0).view.writes (Elt F) (kSlot 0).view.junk [⟨Rect.whole S4096x128, x⟩]) = x from
    View.read_writes_whole _ _ _
theorem read_kSlot₁ (x : Vec F S4096x128 .f32) :
    shapeCast S4096x128 ((Memref.whole cc0_scratch3 : Memref sig .tc .vmem S2x4096x128 .f32).view.readAt (Elt F)
      (Rect.unit (s := S2x4096x128) ![1, 0, 0] S1x4096x128.size inb_S2x4096x128_S1x4096x128_1_0_0).toLoadRect
      ((kSlot 1).view.writes (Elt F) (kSlot 1).view.junk [⟨Rect.whole S4096x128, x⟩])) shapeCasts_S1x4096x128_S4096x128 = x :=
  show (kSlot 1).view.read (Elt F) ((kSlot 1).view.writes (Elt F) (kSlot 1).view.junk [⟨Rect.whole S4096x128, x⟩]) = x from
    View.read_writes_whole _ _ _
theorem read_vSlot₀ (x : Vec F S4096x128 .f32) :
    shapeCast S4096x128 ((Memref.whole cc0_scratch4 : Memref sig .tc .vmem S2x4096x128 .f32).view.readAt (Elt F)
      (Rect.unit (s := S2x4096x128) ![0, 0, 0] S1x4096x128.size inb_S2x4096x128_S1x4096x128_0_0_0).toLoadRect
      ((vSlot 0).view.writes (Elt F) (vSlot 0).view.junk [⟨Rect.whole S4096x128, x⟩])) shapeCasts_S1x4096x128_S4096x128 = x :=
  show (vSlot 0).view.read (Elt F) ((vSlot 0).view.writes (Elt F) (vSlot 0).view.junk [⟨Rect.whole S4096x128, x⟩]) = x from
    View.read_writes_whole _ _ _
theorem read_vSlot₁ (x : Vec F S4096x128 .f32) :
    shapeCast S4096x128 ((Memref.whole cc0_scratch4 : Memref sig .tc .vmem S2x4096x128 .f32).view.readAt (Elt F)
      (Rect.unit (s := S2x4096x128) ![1, 0, 0] S1x4096x128.size inb_S2x4096x128_S1x4096x128_1_0_0).toLoadRect
      ((vSlot 1).view.writes (Elt F) (vSlot 1).view.junk [⟨Rect.whole S4096x128, x⟩])) shapeCasts_S1x4096x128_S4096x128 = x :=
  show (vSlot 1).view.read (Elt F) ((vSlot 1).view.writes (Elt F) (vSlot 1).view.junk [⟨Rect.whole S4096x128, x⟩]) = x from
    View.read_writes_whole _ _ _

/-- Loading a slot of the landing buffer gives what the device it came from sent. -/
theorem read_landed_0 (c : Dev nD) :
    shapeCast S256x1024 ((Memref.whole cc0_scratch6 : Memref sig .tc .vmem S3x256x1024 .bf16).view.readAt (Elt F)
      (Rect.unit (s := S3x256x1024) ![0, 0, 0] S1x256x1024.size inb_S3x256x1024_S1x256x1024_0_0_0).toLoadRect
      (landed m sent c 0)) shapeCasts_S1x256x1024_S256x1024 = sent (peer c (rev 0)) :=
  show (slot 0).view.read (Elt F) ((slot 0).view.write (Elt F) _ _ Finset.univ) = _ from View.read_write_univ _ _
theorem read_landed_1 (c : Dev nD) :
    shapeCast S256x1024 ((Memref.whole cc0_scratch6 : Memref sig .tc .vmem S3x256x1024 .bf16).view.readAt (Elt F)
      (Rect.unit (s := S3x256x1024) ![1, 0, 0] S1x256x1024.size inb_S3x256x1024_S1x256x1024_1_0_0).toLoadRect
      (landed m sent c 1)) shapeCasts_S1x256x1024_S256x1024 = sent (peer c (rev 1)) :=
  show (slot 1).view.read (Elt F) ((slot 1).view.write (Elt F) _ _ Finset.univ) = _ from View.read_write_univ _ _
theorem read_landed_2 (c : Dev nD) :
    shapeCast S256x1024 ((Memref.whole cc0_scratch6 : Memref sig .tc .vmem S3x256x1024 .bf16).view.readAt (Elt F)
      (Rect.unit (s := S3x256x1024) ![2, 0, 0] S1x256x1024.size inb_S3x256x1024_S1x256x1024_2_0_0).toLoadRect
      (landed m sent c 2)) shapeCasts_S1x256x1024_S256x1024 = sent (peer c (rev 2)) :=
  show (slot 2).view.read (Elt F) ((slot 2).view.write (Elt F) _ _ Finset.univ) = _ from View.read_write_univ _ _

/-- The transfer `d` of device `c`, addressed to `n = peer c d`: it borrows a third of the send buffer's share and the slot,
    and pays the send duty and the receive duty. -/
theorem wp_send (c n : Dev nD) (d : Fin 3) (hn : n = peer c d) (κ₁ κ₂ : ℕ)
    {hsc : (slot d : Memref sig (Dev.tc n : Thread nD τ).2.kind .vmem S256x1024 .bf16).view.ref.isScScratch = false}
    {hsrc : (sM : Memref sig .tc .vmem S256x1024 .bf16).view.WordExact} {hdst : (slot d : Memref sig .tc .vmem S256x1024 .bf16).view.WordExact}
    {hsem : DmaTarget.Typed .vmem (.dma (recvS d)) (.remote (Dev.tc n : Thread nD τ) (slot d : Memref sig .tc .vmem S256x1024 .bf16) (.dma (sendS d)) hsc)}
    {α : Type} {Q : α → sProp 𝕄} {k : PUnit → Prog (TpuEff nD τ sig (Elt F) Λ₀ .tc) α}
    (fn : Buf (Elt F) ((slot d).view.loc (peer c d : Thread nD τ))) (O : CellTallies nD τ sig Unit) (W : Waits sig Unit) :
    iprop(cellInv EX (sched m sent) κ₁ (sendCell c d) ∗ cellInv EX (sched m sent) κ₂ (recvCell (peer c d) d)
        ∗ lentPts sent c d ∗ slotPts (peer c d) d fn
        ∗ owes (c : Thread nD τ) (O + tallyAt (recvCell (peer c d) d) () N) W
        ∗ dutyTok EX (sendCell c d) 0 0 ∗ reached EX (sendCell c d) 0
        ∗ dutyTok EX (recvCell (peer c d) d) 0 0 ∗ reached EX (recvCell (peer c d) d) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (slot d) (.dma (sendS d)) hsc) (.dma (recvS d)) hsrc hdst hsem) k) Q) := by
  subst hn
  exact Rounds.wp_send_pointsTo 𝒱₀ EX (sched m sent) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N (show (slot d).view.amount (.dma (recvS d)) = N from N_eq d) (amount_send m sent c d 0) (amount_recv m sent (peer c d) d 0) O rfl (W := W)
    (by rw [payload_send])
    (by rw [payload_recv]; exact Entails.of_eq (landed_of m sent c d fn))

/-! ## What device `c` holds -/

/-- The cells of the exchange by their index. -/
abbrev csem : Fin 8 → SemLoc sig := fun
  | 0 => .reg barS | 1 => .reg exitS
  | 2 => .dma (sendS 0) | 3 => .dma (sendS 1) | 4 => .dma (sendS 2)
  | 5 => .dma (recvS 0) | 6 => .dma (recvS 1) | 7 => .dma (recvS 2)
abbrev kcell (ck : Dev nD × Fin 8) : GSem nD τ sig := ((ck.1 : Thread nD τ), csem ck.2)
/-- The index of send cell `d`, and of receive cell `d`. -/
abbrev sendIx : Fin 3 → Fin 8 := fun | 0 => 2 | 1 => 3 | 2 => 4
abbrev recvIx : Fin 3 → Fin 8 := fun | 0 => 5 | 1 => 6 | 2 => 7

variable (K : Dev nD × Fin 8 → ℕ)

/-- The invariants device `c` uses: of its own cells and of the other devices' barrier, exit and receive cells. -/
def invs (c : Dev nD) : sProp 𝕄 :=
  iprop((cellInv EX (sched m sent) (K (c, 0)) (barCell c)
      ∗ cellInv EX (sched m sent) (K (c, 1)) (exitCell c)
      ∗ (cellInv EX (sched m sent) (K (c, 2)) (sendCell c 0) ∗ cellInv EX (sched m sent) (K (c, 3)) (sendCell c 1) ∗ cellInv EX (sched m sent) (K (c, 4)) (sendCell c 2))
      ∗ (cellInv EX (sched m sent) (K (c, 5)) (recvCell c 0)
        ∗ cellInv EX (sched m sent) (K (c, 6)) (recvCell c 1)
        ∗ cellInv EX (sched m sent) (K (c, 7)) (recvCell c 2)))
    ∗ (cellInv EX (sched m sent) (K (peer c 0, 0)) (barCell (peer c 0)) ∗ cellInv EX (sched m sent) (K (peer c 0, 1)) (exitCell (peer c 0)) ∗ cellInv EX (sched m sent) (K (peer c 0, 5)) (recvCell (peer c 0) 0))
    ∗ (cellInv EX (sched m sent) (K (peer c 1, 0)) (barCell (peer c 1)) ∗ cellInv EX (sched m sent) (K (peer c 1, 1)) (exitCell (peer c 1)) ∗ cellInv EX (sched m sent) (K (peer c 1, 6)) (recvCell (peer c 1) 1))
    ∗ (cellInv EX (sched m sent) (K (peer c 2, 0)) (barCell (peer c 2)) ∗ cellInv EX (sched m sent) (K (peer c 2, 1)) (exitCell (peer c 2)) ∗ cellInv EX (sched m sent) (K (peer c 2, 7)) (recvCell (peer c 2) 2)))
/-- The tokens of the duties device `c` pays at distance `d`. -/
def duesAt (c : Dev nD) (d : Fin 3) : sProp 𝕄 :=
  iprop(dutyTok EX (barCell (peer c d)) 0 d ∗ dutyTok EX (exitCell (peer c d)) 0 d
    ∗ dutyTok EX (recvCell (peer c d) d) 0 0 ∗ dutyTok EX (sendCell c d) 0 0)
/-- That round 0 is reached at the cells it pays at distance `d`, and at its own receive cell. -/
def metAt (c : Dev nD) (d : Fin 3) : sProp 𝕄 :=
  iprop(reached EX (barCell (peer c d)) 0 ∗ reached EX (exitCell (peer c d)) 0
    ∗ reached EX (recvCell c d) 0 ∗ reached EX (sendCell c d) 0)
/-- Its positions on its own cells. -/
def stands (c : Dev nD) : sProp 𝕄 :=
  iprop(atPos EX (barCell c) 0 ∅ 0 ∗ atPos EX (exitCell c) 0 ∅ 0
    ∗ (atPos EX (sendCell c 0) 0 ∅ 0 ∗ atPos EX (sendCell c 1) 0 ∅ 0 ∗ atPos EX (sendCell c 2) 0 ∅ 0)
    ∗ (atPos EX (recvCell c 0) 0 ∅ 0 ∗ atPos EX (recvCell c 1) 0 ∅ 0 ∗ atPos EX (recvCell c 2) 0 ∅ 0))
/-- Its credits. -/
def credits (c : Dev nD) : sProp 𝕄 :=
  iprop(cred (tallyAt (barCell c) () 3) ∗ cred (tallyAt (exitCell c) () 3)
    ∗ (cred (tallyAt (recvCell c 0) () N) ∗ cred (tallyAt (recvCell c 1) () N) ∗ cred (tallyAt (recvCell c 2) () N)))
/-- Everything of the exchange device `c` starts from. -/
def ghost (c : Dev nD) : sProp 𝕄 :=
  iprop(invs m sent K c ∗ (duesAt c 0 ∗ duesAt c 1 ∗ duesAt c 2) ∗ (metAt c 0 ∗ metAt c 1 ∗ metAt c 2) ∗ stands c)

/-- The arguments as given. -/
def args (c : Dev nD) : sProp 𝕄 :=
  iprop(buf c main_arg0 (m ((c : Thread nD τ).loc main_arg0)) ∗ buf c main_arg1 (m ((c : Thread nD τ).loc main_arg1))
    ∗ buf c main_arg2 (m ((c : Thread nD τ).loc main_arg2)) ∗ buf c main_arg3 (m ((c : Thread nD τ).loc main_arg3))
    ∗ buf c main_arg4 (m ((c : Thread nD τ).loc main_arg4)))
/-- The counters of the load semaphores at zero. -/
def loadSems (c : Dev nD) : sProp 𝕄 :=
  iprop(semVal ((c : Thread nD τ), .dma (loadS 0)) 0 ∗ semVal ((c : Thread nD τ), .dma (loadS 1)) 0 ∗ semVal ((c : Thread nD τ), .dma (loadS 2)) 0
    ∗ semVal ((c : Thread nD τ), .dma (loadS 3)) 0 ∗ semVal ((c : Thread nD τ), .dma (loadS 4)) 0 ∗ semVal ((c : Thread nD τ), .dma (loadS 5)) 0
    ∗ semVal ((c : Thread nD τ), .dma (loadS 6)) 0)
/-- The scratch buffers, in the pieces the body uses. -/
def scratch (c : Dev nD) : sProp 𝕄 :=
  iprop((∃ f, buf (F := F) c cc0_scratch0 f) ∗ (∃ f, buf (F := F) c cc0_scratch1 f) ∗ (∃ f, buf (F := F) c cc0_scratch2 f)
    ∗ ((∃ f, part (F := F) c (kSlot 0) f) ∗ (∃ f, part (F := F) c (kSlot 1) f)) ∗ ((∃ f, part (F := F) c (vSlot 0) f) ∗ (∃ f, part (F := F) c (vSlot 1) f))
    ∗ (∃ f, buf (F := F) c cc0_scratch5 f)
    ∗ ((∃ f, slotPts (F := F) c 0 f) ∗ (∃ f, slotPts (F := F) c 1 f) ∗ (∃ f, slotPts (F := F) c 2 f)))
/-- The exchange's counters at zero. -/
def zeros (c : Dev nD) : sProp 𝕄 :=
  iprop(semVal (barCell c) 0 ∗ semVal (exitCell c) 0
    ∗ (semVal (sendCell c 0) 0 ∗ semVal (sendCell c 1) 0 ∗ semVal (sendCell c 2) 0)
    ∗ (semVal (recvCell c 0) 0 ∗ semVal (recvCell c 1) 0 ∗ semVal (recvCell c 2) 0))

/-- What device `c`'s result holds. -/
def total (c : Dev nD) : FVec F S1x256x1024 .f32 :=
  totalOf (partialOut m c) (sentOut m (peer c (rev 0))) (sentOut m (peer c (rev 1))) (sentOut m (peer c (rev 2)))

theorem rest_bar (c : Dev nD) : (bigSep Finset.univ fun d : Fin 3 => barPay (F := F) c d)
    = iprop(((∃ f, slotPts (peer c 2) 2 f) ∗ reached EX (recvCell (peer c 2) 2) 0)
      ∗ ((∃ f, slotPts (peer c 1) 1 f) ∗ reached EX (recvCell (peer c 1) 1) 0)
      ∗ (∃ f, slotPts (peer c 0) 0 f) ∗ reached EX (recvCell (peer c 0) 0) 0) :=
  bigSep_univ_eq_bigSepL [0, 1, 2] (by decide) (by decide) _

/-- What a receive cell's round, and a send cell's round, hand over. -/
theorem rest_recv (c : Dev nD) (d : Fin 3) :
    (bigSep ((sched m sent).duties (recvCell c d) 0) fun e => (sched m sent).payload (recvCell c d) 0 e) = slotPts c d (landed m sent c d) := by
  rw [duties_recv, bigSep_singleton, payload_recv]
theorem rest_send (c : Dev nD) (d : Fin 3) :
    (bigSep ((sched m sent).duties (sendCell c d) 0) fun e => (sched m sent).payload (sendCell c d) 0 e) = lentPts sent c d := by
  rw [duties_send, bigSep_singleton, payload_send]

theorem hz : (![0, 0] : Fin 2 → Nat) = fun _ => 0 := funext fun a => by fin_cases a <;> rfl
theorem hz₃ : (![0, 0, 0] : Fin 3 → Nat) = fun _ => 0 := funext fun a => by fin_cases a <;> rfl
/-- A share of the whole send buffer is what a transfer gives back. -/
theorem lent_of (c : Dev nD) (d : Fin 3) :
    ((sM : Memref sig .tc .vmem S256x1024 .bf16).view.loc (c : Thread nD τ) ↦{third d} sent c : sProp 𝕄) = lentPts sent c d := by
  rw [lentPts, show (sM : Memref sig .tc .vmem S256x1024 .bf16).view.set = Finset.univ from View.set_whole _]
/-- A store over a whole buffer leaves what was stored. -/
theorem store_sent (f w : FVec F S256x1024 .bf16) : (Memref.whole cc0_scratch5 : Memref sig .tc .vmem S256x1024 .bf16).view.writes (Elt F) f
    [⟨Rect.unit (s := S256x1024) ![0, 0] S256x1024.size inb_S256x1024_S256x1024_0_0, w⟩] = w :=
  (Memref.write_access_unit_zero_univ (Elt F) cc0_scratch5 hz inb_S256x1024_S256x1024_0_0 f w :)
theorem store_out (f w : FVec F S1x256x1024 .f32) : (Memref.whole cc0_stg0_0 : Memref sig .tc .vmem S1x256x1024 .f32).view.writes (Elt F) f
    [⟨Rect.unit (s := S1x256x1024) ![0, 0, 0] S1x256x1024.size inb_S1x256x1024_S1x256x1024_0_0_0, w⟩] = w :=
  (Memref.write_access_unit_zero_univ (Elt F) cc0_stg0_0 hz₃ inb_S1x256x1024_S1x256x1024_0_0_0 f w :)

set_option maxHeartbeats 4000000 in
/-- The body run at device `c` from what it holds to its result, everything else given back. -/
theorem sound_body (c : Dev nD) (W : Waits sig Unit) (Kt : PUnit → sProp 𝕄) :
    iprop((levAts L lv ∗ ghost m (sentOut m) K c ∗ credits c ∗ args m c ∗ loadSems c ∗ scratch c
        ∗ (∃ f, buf (F := F) c cc0_stg0_0 f) ∗ owes (c : Thread nD τ) (O₀ c) W)
      ∗ (∀ W', (args m c ∗ loadSems c ∗ zeros c ∗ scratch c ∗ buf c cc0_stg0_0 (total m c) ∗ owes (c : Thread nD τ) 0 W') -∗ Kt ⟨⟩))
     ⊢ wp frame (wpE (defs₀ (F := F)) 𝒱₀ c none) Set.univ kernelBody Kt := by
  have hd1 := dev1_eq c
  have hd2 := dev2_eq c
  have hd3 := dev3_eq c
  have hb : ∀ i, (levAts L lv : sProp 𝕄) ⊢ MayWait (c : Thread nD τ) (.dma (loadS i)) () (OR₃ c) := fun i => mayWait_load c i 1 _ (above_OR₃ c)
  have hb0 := hb 0; have hb1 := hb 1; have hb2 := hb 2; have hb3 := hb 3; have hb4 := hb 4; have hb5 := hb 5; have hb6 := hb 6
  have hbb : (levAts L lv : sProp 𝕄) ⊢ MayWait (c : Thread nD τ) (.reg barS) () (OR₃ c) := mayWait c _ 1 (le_of_eq (lv_bar c)) _ (above_OR₃ c)
  unfold ghost invs duesAt metAt stands credits args loadSems scratch
  iintro ⟨⟨#Hlev, ⟨⟨⟨#HIb, #HIe, ⟨#HIs0, #HIs1, #HIs2⟩, #HIr0, #HIr1, #HIr2⟩, ⟨#HIb0, #HIe0, #HIv0⟩, ⟨#HIb1, #HIe1, #HIv1⟩, #HIb2, #HIe2, #HIv2⟩,
      ⟨⟨Ht0, Hte0, Htv0, Hts0⟩, ⟨Ht1, Hte1, Htv1, Hts1⟩, Ht2, Hte2, Htv2, Hts2⟩,
      ⟨⟨#Hr0, #Hre0, #Hrv0, #Hrs0⟩, ⟨#Hr1, #Hre1, #Hrv1, #Hrs1⟩, #Hr2, #Hre2, #Hrv2, #Hrs2⟩,
      HaB, HaE, ⟨HaS0, HaS1, HaS2⟩, HaR0, HaR1, HaR2⟩,
    ⟨HcB, HcE, HcR0, HcR1, HcR2⟩, ⟨Ha0, Ha1, Ha2w, Ha3w, Ha4⟩, ⟨Hv0, Hv1, Hv2, Hv3, Hv4, Hv5, Hv6⟩,
    ⟨⟨%f0, Hs0⟩, ⟨%f1, Hs1⟩, ⟨%f2, Hs2⟩, ⟨⟨%f3, Hs3⟩, ⟨%f3', Hs3'⟩⟩, ⟨⟨%f4, Hs4⟩, ⟨%f4', Hs4'⟩⟩, ⟨%f5, Hs5⟩, ⟨%g0, Hg0⟩, ⟨%g1, Hg1⟩, ⟨%g2, Hg2⟩⟩,
    ⟨%fo, Hout⟩, HO⟩, Hk⟩
  ihave ⟨Ha2, Ha2'⟩ := (pointsTo_share (PosShare.mem_left_op_right fullShare)).1 $$ Ha2w
  ihave ⟨Ha3, Ha3'⟩ := (pointsTo_share (PosShare.mem_left_op_right fullShare)).1 $$ Ha3w
  ihave Hp0 : barPay (F := F) (peer c 0) 0 $$ [Hg2]
  · unfold barPay; rw [peer_rev]
    isplitl; · iexists g2; iexact Hg2
    iexact Hrv2
  ihave Hp1 : barPay (F := F) (peer c 1) 1 $$ [Hg1]
  · unfold barPay; rw [peer_rev]
    isplitl; · iexists g1; iexact Hg1
    iexact Hrv1
  ihave Hp2 : barPay (F := F) (peer c 2) 2 $$ [Hg0]
  · unfold barPay; rw [peer_rev]
    isplitl; · iexists g0; iexact Hg0
    iexact Hrv0
  unfold O₀ OB₂ OB₁ kernelBody
  sl_unfold [cc0_body]
  sl_exec
  have eq : sound_body.sl.r m c f0 f1 = queries m c := by
    show k0_pay1 (sound_body.sl.v89 m c f0) (sound_body.sl.v91 m c f1) = _
    rw [show sound_body.sl.v89 m c f0 = xIn m c from (Memref.readAt_unit_zero (Elt F) cc0_scratch0 hz _ _).trans (View.write_whole_univ _ _ _),
      show sound_body.sl.v91 m c f1 = wqIn m c from (Memref.readAt_unit_zero (Elt F) cc0_scratch1 hz _ _).trans (View.write_whole_univ _ _ _)]
    rfl
  have ek0 : sound_body.sl.r_1 m c = keys m c 0 := congrArg (fun x : Vec F S4096x128 .f32 => truncf .bf16 x bitsLt_bf16_f32) (read_kSlot₀ (kIn m c 0))
  have ev0 : sound_body.sl.r_2 m c = vals m c 0 := congrArg (fun x : Vec F S4096x128 .f32 => truncf .bf16 x bitsLt_bf16_f32) (read_vSlot₀ (vIn m c 0))
  have ek1 : sound_body.sl.r_3 m c = keys m c 1 := congrArg (fun x : Vec F S4096x128 .f32 => truncf .bf16 x bitsLt_bf16_f32) (read_kSlot₁ (kIn m c 1))
  have ev1 : sound_body.sl.r_4 m c = vals m c 1 := congrArg (fun x : Vec F S4096x128 .f32 => truncf .bf16 x bitsLt_bf16_f32) (read_vSlot₁ (vIn m c 1))
  have ewo : sound_body.sl.v248 m c f2 = woIn m c := (Memref.readAt_unit_zero (Elt F) cc0_scratch2 hz _ _).trans (View.write_whole_univ _ _ _)
  have epart : k0_pay18 (sound_body.sl.r_5 m c f0 f1) (sound_body.sl.r_7 m c f0 f1) (sound_body.sl.r_8 m c f0 f1)
      (sound_body.sl.r_9 m c f0 f1) (sound_body.sl.r_11 m c f0 f1) (sound_body.sl.r_12 m c f0 f1)
      (sound_body.sl.r_13 m c f0 f1) (sound_body.sl.r_14 m c f0 f1) (sound_body.sl.r_15 m c f0 f1) (sound_body.sl.v248 m c f2) = partialOut m c := by
    show partialOf (sound_body.sl.r m c f0 f1) (sound_body.sl.r_1 m c) (sound_body.sl.r_2 m c) (sound_body.sl.r_3 m c) (sound_body.sl.r_4 m c) (sound_body.sl.v248 m c f2) = _
    rw [eq, ek0, ev0, ek1, ev1, ewo]
    rfl
  have esent : (Memref.whole cc0_scratch5 : Memref sig .tc .vmem S256x1024 .bf16).view.writes (Elt F) f5
      [⟨Rect.unit (s := S256x1024) ![0, 0] S256x1024.size inb_S256x1024_S256x1024_0_0,
        k0_pay19 (sound_body.sl.r_5 m c f0 f1) (sound_body.sl.r_7 m c f0 f1) (sound_body.sl.r_8 m c f0 f1)
          (sound_body.sl.r_9 m c f0 f1) (sound_body.sl.r_11 m c f0 f1) (sound_body.sl.r_12 m c f0 f1)
          (sound_body.sl.r_13 m c f0 f1) (sound_body.sl.r_14 m c f0 f1) (sound_body.sl.r_15 m c f0 f1) (sound_body.sl.v248 m c f2)⟩] = sentOut m c := by
    refine (store_sent f5 _).trans ?_
    show shapeCast S256x1024 (truncf .bf16 (k0_pay18 (sound_body.sl.r_5 m c f0 f1) (sound_body.sl.r_7 m c f0 f1) (sound_body.sl.r_8 m c f0 f1)
      (sound_body.sl.r_9 m c f0 f1) (sound_body.sl.r_11 m c f0 f1) (sound_body.sl.r_12 m c f0 f1)
      (sound_body.sl.r_13 m c f0 f1) (sound_body.sl.r_14 m c f0 f1) (sound_body.sl.r_15 m c f0 f1) (sound_body.sl.v248 m c f2)) bitsLt_bf16_f32) shapeCasts_S256x1024_S256x1024 = _
    rw [epart]
    rfl
  rw [esent, epart]
  ihave ⟨⟨⟨%h2, Hn2⟩, #Hrn2⟩, ⟨⟨%h1, Hn1⟩, #Hrn1⟩, ⟨%h0, Hn0⟩, #Hrn0⟩ := (Entails.of_eq (rest_bar (F := F) c)) $$ HaB_pay1
  ihave ⟨Hl0, Hl⟩ := (pointsTo_share (PosShare.mem_left_op_right fullShare)).1 $$ Hs5
  ihave ⟨Hl1, Hl2⟩ := (pointsTo_share (PosShare.mem_left_op_right fullShare.right)).1 $$ Hl
  have hd4 := dev4_eq c
  have hd5 := dev5_eq c
  have hd6 := dev6_eq c
  have hd7 := dev7_eq c
  have hd8 := dev8_eq c
  have hd9 := dev9_eq c
  iapply wp_send m (sentOut m) c (peer c 0) 0 rfl (K (c, 2)) (K (peer c 0, 5)) h0 (OR₂ c) $$ [HO Hl0 Hn0 Hts0 Htv0]
  · isplitl []; · iexact HIs0
    isplitl []; · iexact HIv0
    isplitl [Hl0]; · iapply (Entails.of_eq (lent_of (F := F) (sentOut m) c 0)); iexact Hl0
    isplitl [Hn0]; · iexact Hn0
    isplitl [HO]; · iexact HO
    isplitl [Hts0]; · iexact Hts0
    isplitl []; · iexact Hrs0
    isplitl [Htv0]; · iexact Htv0
    iexact Hrn0
  iintro ⟨HcS0, HO⟩
  sl_exec
  iapply wp_send m (sentOut m) c (peer c 1) 1 rfl (K (c, 3)) (K (peer c 1, 6)) h1 (OR₁ c) $$ [HO Hl1 Hn1 Hts1 Htv1]
  · isplitl []; · iexact HIs1
    isplitl []; · iexact HIv1
    isplitl [Hl1]; · iapply (Entails.of_eq (lent_of (F := F) (sentOut m) c 1)); iexact Hl1
    isplitl [Hn1]; · iexact Hn1
    isplitl [HO]; · iexact HO
    isplitl [Hts1]; · iexact Hts1
    isplitl []; · iexact Hrs1
    isplitl [Htv1]; · iexact Htv1
    iexact Hrn1
  iintro ⟨HcS1, HO⟩
  sl_exec
  iapply wp_send m (sentOut m) c (peer c 2) 2 rfl (K (c, 4)) (K (peer c 2, 7)) h2 (OE₃ c) $$ [HO Hl2 Hn2 Hts2 Htv2]
  · isplitl []; · iexact HIs2
    isplitl []; · iexact HIv2
    isplitl [Hl2]; · iapply (Entails.of_eq (lent_of (F := F) (sentOut m) c 2)); iexact Hl2
    isplitl [Hn2]; · iexact Hn2
    isplitl [HO]; · iexact HO
    isplitl [Hts2]; · iexact Hts2
    isplitl []; · iexact Hrs2
    isplitl [Htv2]; · iexact Htv2
    iexact Hrn2
  iintro ⟨HcS2, HO⟩
  have hr (d : Fin 3) : (levAts L lv : sProp 𝕄) ⊢ MayWait (c : Thread nD τ) (.dma (recvS d)) () (OE₃ c) :=
    mayWait c _ 2 (by rw [lv_recv]) _ (above_OE₃ c)
  have hr0 := hr 0; have hr1 := hr 1; have hr2 := hr 2
  sl_exec
  ihave Hg0 := (Entails.of_eq (rest_recv m (sentOut m) c 0)) $$ HaR0_pay1
  sl_exec
  ihave Hg1 := (Entails.of_eq (rest_recv m (sentOut m) c 1)) $$ HaR1_pay1
  sl_exec
  ihave Hg2 := (Entails.of_eq (rest_recv m (sentOut m) c 2)) $$ HaR2_pay1
  sl_exec
  have hs (d : Fin 3) : (levAts L lv : sProp 𝕄) ⊢ MayWait (c : Thread nD τ) (.dma (sendS d)) () (OE₃ c) :=
    mayWait c _ 2 (by rw [lv_low c _ (fun d' h => send_ne_recv d d' (congrArg _ h))]; decide) _ (above_OE₃ c)
  have hs0 := hs 0; have hs1 := hs 1; have hs2 := hs 2
  sl_exec
  ihave Hl0 := (Entails.of_eq (rest_send m (sentOut m) c 0)) $$ HaS0_pay1
  ihave Hl1 := (Entails.of_eq (rest_send m (sentOut m) c 1)) $$ HaS1_pay1
  ihave Hl2 := (Entails.of_eq (rest_send m (sentOut m) c 2)) $$ HaS2_pay1
  unfold OE₃ OE₂ OE₁
  rw [← zero_add (tallyAt (exitCell (peer c 2)) () 1)]
  sl_exec
  imod (Rounds.cell_close EX (sched m (sentOut m)) (Set.mem_univ (K (c, 0))) (fun h => h) (R := 0 + 1) (duties_later m (sentOut m) (barCell c))) $$ [HaB] with HzB
  · isplitr; · iexact HIb
    iexact HaB
  imod (Rounds.cell_close EX (sched m (sentOut m)) (Set.mem_univ (K (c, 1))) (fun h => h) (R := 0 + 1) (duties_later m (sentOut m) (exitCell c))) $$ [HaE] with HzE
  · isplitr; · iexact HIe
    iexact HaE
  imod (Rounds.cell_close EX (sched m (sentOut m)) (Set.mem_univ (K (c, 2))) (fun h => h) (R := 0 + 1) (duties_later m (sentOut m) (sendCell c 0))) $$ [HaS0] with HzS0
  · isplitr; · iexact HIs0
    iexact HaS0
  imod (Rounds.cell_close EX (sched m (sentOut m)) (Set.mem_univ (K (c, 3))) (fun h => h) (R := 0 + 1) (duties_later m (sentOut m) (sendCell c 1))) $$ [HaS1] with HzS1
  · isplitr; · iexact HIs1
    iexact HaS1
  imod (Rounds.cell_close EX (sched m (sentOut m)) (Set.mem_univ (K (c, 4))) (fun h => h) (R := 0 + 1) (duties_later m (sentOut m) (sendCell c 2))) $$ [HaS2] with HzS2
  · isplitr; · iexact HIs2
    iexact HaS2
  imod (Rounds.cell_close EX (sched m (sentOut m)) (Set.mem_univ (K (c, 5))) (fun h => h) (R := 0 + 1) (duties_later m (sentOut m) (recvCell c 0))) $$ [HaR0] with HzR0
  · isplitr; · iexact HIr0
    iexact HaR0
  imod (Rounds.cell_close EX (sched m (sentOut m)) (Set.mem_univ (K (c, 6))) (fun h => h) (R := 0 + 1) (duties_later m (sentOut m) (recvCell c 1))) $$ [HaR1] with HzR1
  · isplitr; · iexact HIr1
    iexact HaR1
  imod (Rounds.cell_close EX (sched m (sentOut m)) (Set.mem_univ (K (c, 7))) (fun h => h) (R := 0 + 1) (duties_later m (sentOut m) (recvCell c 2))) $$ [HaR2] with HzR2
  · isplitr; · iexact HIr2
    iexact HaR2
  rw [wp_ret]; imodintro
  have etot : (Memref.whole cc0_stg0_0 : Memref sig .tc .vmem S1x256x1024 .f32).view.writes (Elt F) fo
      [⟨Rect.unit (s := S1x256x1024) ![0, 0, 0] S1x256x1024.size inb_S1x256x1024_S1x256x1024_0_0_0,
        k0_pay21 (sound_body.sl.r_16 m c) ((Memref.whole cc0_scratch6 : Memref sig .tc .vmem S3x256x1024 .bf16).view.readAt (Elt F)
          (Rect.unit (s := S3x256x1024) ![2, 0, 0] S1x256x1024.size inb_S3x256x1024_S1x256x1024_2_0_0).toLoadRect (landed m (sentOut m) c 2))⟩] = total m c := by
    refine (store_out fo _).trans ?_
    refine Eq.trans ?_ (congrArg₂ (fun (r₀ : FVec F S256x1024 .bf16) (p : FVec F S256x1024 .bf16 × FVec F S256x1024 .bf16) => totalOf (partialOut m c) r₀ p.1 p.2) (read_landed_0 m (sentOut m) c)
      (congrArg₂ Prod.mk (read_landed_1 m (sentOut m) c) (read_landed_2 m (sentOut m) c)))
    rfl
  rw [etot]
  ihave Hl := (pointsTo_share (PosShare.mem_left_op_right fullShare.right)).2 $$ [Hl1 Hl2]
  · isplitl [Hl1]; · iapply (Entails.of_eq (lent_of (F := F) (sentOut m) c 1).symm); iexact Hl1
    iapply (Entails.of_eq (lent_of (F := F) (sentOut m) c 2).symm); iexact Hl2
  ihave Hs5 := (pointsTo_share (PosShare.mem_left_op_right fullShare)).2 $$ [Hl0 Hl]
  · isplitl [Hl0]; · iapply (Entails.of_eq (lent_of (F := F) (sentOut m) c 0).symm); iexact Hl0
    iexact Hl
  ihave Ha2w := (pointsTo_share (PosShare.mem_left_op_right fullShare)).2 $$ [Ha2 Ha2']
  · isplitl [Ha2]; · iexact Ha2
    iexact Ha2'
  ihave Ha3w := (pointsTo_share (PosShare.mem_left_op_right fullShare)).2 $$ [Ha3 Ha3']
  · isplitl [Ha3]; · iexact Ha3
    iexact Ha3'
  iapply Hk
  isplitl [Ha0 Ha1 Ha2w Ha3w Ha4]
  · isplitl [Ha0]; · iexact Ha0
    isplitl [Ha1]; · iexact Ha1
    isplitl [Ha2w]; · iexact Ha2w
    isplitl [Ha3w]; · iexact Ha3w
    iexact Ha4
  isplitl [Hv0 Hv1 Hv2 Hv3 Hv4 Hv5 Hv6]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  isplitl [HzB HzE HzS0 HzS1 HzS2 HzR0 HzR1 HzR2]
  · unfold zeros
    isplitl [HzB]; · iexact HzB
    isplitl [HzE]; · iexact HzE
    isplitl [HzS0 HzS1 HzS2]
    · isplitl [HzS0]; · iexact HzS0
      isplitl [HzS1]; · iexact HzS1
      iexact HzS2
    isplitl [HzR0]; · iexact HzR0
    isplitl [HzR1]; · iexact HzR1
    iexact HzR2
  isplitl [Hs0 Hs1 Hs2 Hs3 Hs3' Hs4 Hs4' Hs5 Hg0 Hg1 Hg2]
  · isplitl [Hs0]; · iexists _; iexact Hs0
    isplitl [Hs1]; · iexists _; iexact Hs1
    isplitl [Hs2]; · iexists _; iexact Hs2
    isplitl [Hs3 Hs3']
    · isplitl [Hs3]; · iexists _; iexact Hs3
      iexists _; iexact Hs3'
    isplitl [Hs4 Hs4']
    · isplitl [Hs4]; · iexists _; iexact Hs4
      iexists _; iexact Hs4'
    isplitl [Hs5]; · iexists _; iexact Hs5
    isplitl [Hg0]; · iexists _; iexact Hg0
    isplitl [Hg1]; · iexists _; iexact Hg1
    iexists _; iexact Hg2
  isplitl [Hout]; · iexact Hout
  iexact HO

end Cert.KernelIdeal.Exchange
-- ==== Proof.Deal.lean ====
/-
What the launch hands each device, sorted into what its body starts from and ends with: the semaphores' counters, the
exchange's ghost state allocated for all devices at once, the credits, and the scratch buffers in pieces.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (sent : Dev nD → (cc0_scratch5 : Ref sig .tc).ty.Contents (Elt F))

theorem sep_fin2 (Φ : Fin 2 → sProp 𝕄) : bigSep Finset.univ Φ = iprop(Φ 0 ∗ Φ 1) :=
  bigSep_univ_eq_bigSepL [0, 1] (by decide) (by decide) Φ
theorem sep_fin3 (Φ : Fin 3 → sProp 𝕄) : bigSep Finset.univ Φ = iprop(Φ 0 ∗ Φ 1 ∗ Φ 2) :=
  bigSep_univ_eq_bigSepL [0, 1, 2] (by decide) (by decide) Φ
theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Buffers in pieces -/

/-- The elements a map sends to `t`. -/
def fiber {α : Type} [Fintype α] {k : ℕ} (p : α → Fin k) (t : Fin k) : Finset α := Finset.univ.filter fun i => p i = t
theorem mem_fiber {α : Type} [Fintype α] {k : ℕ} (p : α → Fin k) (t : Fin k) (i : α) : i ∈ fiber p t ↔ p i = t := by
  unfold fiber; rw [Finset.mem_filter]; exact and_iff_right (Finset.mem_univ _)
theorem fiber_disjoint {α : Type} [Fintype α] {k : ℕ} (p : α → Fin k) (t t' : Fin k) (ne : t ≠ t') : Disjoint (fiber p t) (fiber p t') :=
  Finset.disjoint_left.mpr fun i hi hi' => ne (((mem_fiber p t i).mp hi).symm.trans ((mem_fiber p t' i).mp hi'))

/-- A buffer held at unknown contents is the fibers of a map of its elements held so, -/
theorem spread {k : ℕ} (ℓ : Loc nD τ sig) (p : Idx ℓ → Fin k) :
    (iprop(∃ f : Buf (Elt F) ℓ, ℓ ↦{fullShare} f) : sProp 𝕄)
      ⊢ bigSep Finset.univ fun t : Fin k => iprop(∃ f : Buf (Elt F) ℓ, ℓ ↦[fiber p t]{fullShare} f) := by
  classical
  have h (f : Buf (Elt F) ℓ) : (ℓ ↦{fullShare} f : sProp 𝕄) = bigSep Finset.univ fun t : Fin k => ℓ ↦[fiber p t]{fullShare} f := by
    rw [← pointsTo_biUnion Finset.univ (fiber p) fun t _ t' _ ne => fiber_disjoint p t t' ne]
    congr 1
    ext i
    simp [mem_fiber]
  refine exists_elim fun f => (Entails.of_eq (h f)).trans (bigSep_mono fun t _ => ?_)
  show (ℓ ↦[fiber p t]{fullShare} f : sProp 𝕄) ⊢ iprop(∃ f : Buf (Elt F) ℓ, ℓ ↦[fiber p t]{fullShare} f)
  iintro H
  iexists f
  iexact H
/-- and back. -/
theorem gather {k : ℕ} [NeZero k] (ℓ : Loc nD τ sig) (p : Idx ℓ → Fin k) :
    (bigSep Finset.univ fun t : Fin k => (iprop(∃ f : Buf (Elt F) ℓ, ℓ ↦[fiber p t]{fullShare} f) : sProp 𝕄))
      ⊢ iprop(∃ f : Buf (Elt F) ℓ, ℓ ↦{fullShare} f) := by
  classical
  iintro H
  ihave H' := (BI.bigSep_exists_pi Finset.univ (fun (t : Fin k) (f : Buf (Elt F) ℓ) => (ℓ ↦[fiber p t]{fullShare} f : sProp 𝕄))) $$ H
  icases H' with ⟨%fs, H'⟩
  ihave H2 := (pointsTo_biUnion_join Finset.univ (fiber p) fs (fs 0) fun t _ t' _ ne => fiber_disjoint p t t' ne) $$ H'
  icases H2 with ⟨%g, -, H2⟩
  have hu : Finset.univ.biUnion (fiber p) = (Finset.univ : Finset (Idx ℓ)) := by
    ext i; simp [mem_fiber]
  rw [hu]
  iexists g
  iexact H2

/-- The first coordinate of an element of a three-axis buffer. -/
def lead (b n r : ℕ) (i : (⟨3, ![b, n, r]⟩ : Shape).Idx) : Fin b := ⟨(i 0).val, (i 0).isLt⟩

/-- A plane of a three-axis buffer is the elements with its first coordinate. -/
theorem plane {b n r : ℕ} (t : Fin b) (inb : ∀ a, (![t.val, 0, 0] : Fin 3 → ℕ) a + (![1, n, r] : Fin 3 → ℕ) a ≤ (⟨3, ![b, n, r]⟩ : Shape).size a) :
    (Rect.unit (s := (⟨3, ![b, n, r]⟩ : Shape)) ![t.val, 0, 0] ![1, n, r] inb).set = fiber (lead b n r) t := by
  ext i
  rw [Rect.mem_set_unit, mem_fiber]
  constructor
  · intro h
    have h0 := h 0
    refine Fin.ext ?_
    simp at h0
    show (i 0).val = t.val
    omega
  · rintro h a
    have hv : (i 0).val = t.val := congrArg Fin.val h
    have h1 : (i 1).val < n := (i 1).isLt
    have h2 : (i 2).val < r := (i 2).isLt
    fin_cases a
    · simp [hv]
    · simpa using h1
    · simpa using h2

/-- The scratch buffers' pieces as the fibers of the first coordinate. -/
theorem kPart (c : Dev nD) : iprop((∃ f, part (F := F) c (kSlot 0) f) ∗ (∃ f, part (F := F) c (kSlot 1) f))
    = bigSep Finset.univ fun t : Fin 2 =>
      (iprop(∃ f : Buf (Elt F) ((c : Thread nD τ).loc cc0_scratch3), ((c : Thread nD τ).loc cc0_scratch3) ↦[fiber (lead 2 4096 128) t]{fullShare} f) : sProp 𝕄) := by
  have h0 : (kSlot 0).view.set = fiber (lead 2 4096 128) 0 := (View.set_reshape _ _).trans ((View.set_slice_whole _ _).trans (plane 0 _))
  have h1 : (kSlot 1).view.set = fiber (lead 2 4096 128) 1 := (View.set_reshape _ _).trans ((View.set_slice_whole _ _).trans (plane 1 _))
  rw [sep_fin2, ← h0, ← h1]
theorem vPart (c : Dev nD) : iprop((∃ f, part (F := F) c (vSlot 0) f) ∗ (∃ f, part (F := F) c (vSlot 1) f))
    = bigSep Finset.univ fun t : Fin 2 =>
      (iprop(∃ f : Buf (Elt F) ((c : Thread nD τ).loc cc0_scratch4), ((c : Thread nD τ).loc cc0_scratch4) ↦[fiber (lead 2 4096 128) t]{fullShare} f) : sProp 𝕄) := by
  have h0 : (vSlot 0).view.set = fiber (lead 2 4096 128) 0 := (View.set_reshape _ _).trans ((View.set_slice_whole _ _).trans (plane 0 _))
  have h1 : (vSlot 1).view.set = fiber (lead 2 4096 128) 1 := (View.set_reshape _ _).trans ((View.set_slice_whole _ _).trans (plane 1 _))
  rw [sep_fin2, ← h0, ← h1]
theorem slotPart (c : Dev nD) : iprop((∃ f, slotPts (F := F) c 0 f) ∗ (∃ f, slotPts (F := F) c 1 f) ∗ (∃ f, slotPts (F := F) c 2 f))
    = bigSep Finset.univ fun t : Fin 3 =>
      (iprop(∃ f : Buf (Elt F) ((c : Thread nD τ).loc cc0_scratch6), ((c : Thread nD τ).loc cc0_scratch6) ↦[fiber (lead 3 256 1024) t]{fullShare} f) : sProp 𝕄) := by
  have h0 : (slot 0).view.set = fiber (lead 3 256 1024) 0 := (View.set_reshape _ _).trans ((View.set_slice_whole _ _).trans (plane 0 _))
  have h1 : (slot 1).view.set = fiber (lead 3 256 1024) 1 := (View.set_reshape _ _).trans ((View.set_slice_whole _ _).trans (plane 1 _))
  have h2 : (slot 2).view.set = fiber (lead 3 256 1024) 2 := (View.set_reshape _ _).trans ((View.set_slice_whole _ _).trans (plane 2 _))
  rw [sep_fin3, ← h0, ← h1, ← h2]

theorem scratch_eq (c : Dev nD) : scratch (F := F) c
    = iprop((∃ f, buf (F := F) c cc0_scratch0 f) ∗ (∃ f, buf (F := F) c cc0_scratch1 f) ∗ (∃ f, buf (F := F) c cc0_scratch2 f)
      ∗ (bigSep Finset.univ fun t : Fin 2 =>
        (iprop(∃ f : Buf (Elt F) ((c : Thread nD τ).loc cc0_scratch3), ((c : Thread nD τ).loc cc0_scratch3) ↦[fiber (lead 2 4096 128) t]{fullShare} f) : sProp 𝕄))
      ∗ (bigSep Finset.univ fun t : Fin 2 =>
        (iprop(∃ f : Buf (Elt F) ((c : Thread nD τ).loc cc0_scratch4), ((c : Thread nD τ).loc cc0_scratch4) ↦[fiber (lead 2 4096 128) t]{fullShare} f) : sProp 𝕄))
      ∗ (∃ f, buf (F := F) c cc0_scratch5 f)
      ∗ (bigSep Finset.univ fun t : Fin 3 =>
        (iprop(∃ f : Buf (Elt F) ((c : Thread nD τ).loc cc0_scratch6), ((c : Thread nD τ).loc cc0_scratch6) ↦[fiber (lead 3 256 1024) t]{fullShare} f) : sProp 𝕄))) := by
  rw [← kPart c, ← vPart c, ← slotPart c]; rfl

/-- The scratch buffers whole are the pieces the body uses, -/
theorem scratch_of_rest (c : Dev nD) :
    (Pipeline.scopedRest (Ix := Unit) (Name := ℕ) (U := UU) (Lvl := ℕ) (Val := Elt F) spec0 c : sProp 𝕄) ⊢ scratch c := by
  rw [scopedRest0_eq, scratch_eq]
  iintro ⟨H0, H1, H2, H3, H4, H5, H6⟩
  ihave H3' := (spread ((c : Thread nD τ).loc cc0_scratch3) (lead 2 4096 128)) $$ H3
  ihave H4' := (spread ((c : Thread nD τ).loc cc0_scratch4) (lead 2 4096 128)) $$ H4
  ihave H6' := (spread ((c : Thread nD τ).loc cc0_scratch6) (lead 3 256 1024)) $$ H6
  isplitl [H0]; · iexact H0
  isplitl [H1]; · iexact H1
  isplitl [H2]; · iexact H2
  isplitl [H3']; · iexact H3'
  isplitl [H4']; · iexact H4'
  isplitl [H5]; · iexact H5
  iexact H6'
/-- and back. -/
theorem rest_of_scratch (c : Dev nD) :
    scratch c ⊢ (Pipeline.scopedRest (Ix := Unit) (Name := ℕ) (U := UU) (Lvl := ℕ) (Val := Elt F) spec0 c : sProp 𝕄) := by
  rw [scopedRest0_eq, scratch_eq]
  iintro ⟨H0, H1, H2, H3, H4, H5, H6⟩
  ihave H3' := (gather ((c : Thread nD τ).loc cc0_scratch3) (lead 2 4096 128)) $$ H3
  ihave H4' := (gather ((c : Thread nD τ).loc cc0_scratch4) (lead 2 4096 128)) $$ H4
  ihave H6' := (gather ((c : Thread nD τ).loc cc0_scratch6) (lead 3 256 1024)) $$ H6
  isplitl [H0]; · iexact H0
  isplitl [H1]; · iexact H1
  isplitl [H2]; · iexact H2
  isplitl [H3']; · iexact H3'
  isplitl [H4']; · iexact H4'
  isplitl [H5]; · iexact H5
  iexact H6'

/-! ## Semaphores -/

/-- The kernel's own semaphores: the loads' seven, the sends' three, the receives' three, and the exit's. -/
abbrev osem : Fin 14 → SemLoc sig := fun
  | 0 => .dma (loadS 0) | 1 => .dma (loadS 1) | 2 => .dma (loadS 2) | 3 => .dma (loadS 3) | 4 => .dma (loadS 4) | 5 => .dma (loadS 5) | 6 => .dma (loadS 6)
  | 7 => .dma (sendS 0) | 8 => .dma (sendS 1) | 9 => .dma (sendS 2)
  | 10 => .dma (recvS 0) | 11 => .dma (recvS 1) | 12 => .dma (recvS 2)
  | 13 => .reg exitS

theorem ownSemFacts : Pipeline.OwnSemFacts cfg0.spec osem := by decide

/-- Their counters at zero, listed; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (loadS 0)) 0 ∗ semVal ((c : Thread nD τ), .dma (loadS 1)) 0 ∗ semVal ((c : Thread nD τ), .dma (loadS 2)) 0
      ∗ semVal ((c : Thread nD τ), .dma (loadS 3)) 0 ∗ semVal ((c : Thread nD τ), .dma (loadS 4)) 0 ∗ semVal ((c : Thread nD τ), .dma (loadS 5)) 0
      ∗ semVal ((c : Thread nD τ), .dma (loadS 6)) 0
      ∗ semVal (sendCell c 0) 0 ∗ semVal (sendCell c 1) 0 ∗ semVal (sendCell c 2) 0
      ∗ semVal (recvCell c 0) 0 ∗ semVal (recvCell c 1) 0 ∗ semVal (recvCell c 2) 0
      ∗ semVal (exitCell c) 0) := by
  rw [Pipeline.ownSems0_eq_of_list c osem [0, 1, 2, 3, 4, 5, 6, 7, 8, 9, 10, 11, 12, 13] (by decide) (by decide)]; rfl
/-- the barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All counters at zero are the loads' and the exchange's, -/
theorem sems_split (c : Dev nD) :
    iprop(Pipeline.ownSems0 (Ix := Unit) (Name := ℕ) (U := UU) (Lvl := ℕ) (Val := Elt F) (τ := τ) osem c ∗ unscopedSems0 c)
      ⊢ (iprop(loadSems c ∗ bigSep Finset.univ fun k : Fin 8 => semVal (kcell (c, k)) 0) : sProp 𝕄) := by
  rw [ownSems0_eq, unscopedSems0_eq, sep_fin8]
  unfold loadSems
  iintro ⟨⟨L0, L1, L2, L3, L4, L5, L6, S0, S1, S2, R0, R1, R2, E⟩, B⟩
  isplitl [L0 L1 L2 L3 L4 L5 L6]
  · isplitl [L0]; · iexact L0
    isplitl [L1]; · iexact L1
    isplitl [L2]; · iexact L2
    isplitl [L3]; · iexact L3
    isplitl [L4]; · iexact L4
    isplitl [L5]; · iexact L5
    iexact L6
  isplitl [B]; · iexact B
  isplitl [E]; · iexact E
  isplitl [S0]; · iexact S0
  isplitl [S1]; · iexact S1
  isplitl [S2]; · iexact S2
  isplitl [R0]; · iexact R0
  isplitl [R1]; · iexact R1
  iexact R2
/-- and back. -/
theorem sems_join (c : Dev nD) : iprop(loadSems (F := F) c ∗ zeros (F := F) c)
      ⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq]
  unfold loadSems zeros
  iintro ⟨⟨L0, L1, L2, L3, L4, L5, L6⟩, B, E, ⟨S0, S1, S2⟩, R0, R1, R2⟩
  isplitl [B]; · iexact B
  isplitl [L0]; · iexact L0
  isplitl [L1]; · iexact L1
  isplitl [L2]; · iexact L2
  isplitl [L3]; · iexact L3
  isplitl [L4]; · iexact L4
  isplitl [L5]; · iexact L5
  isplitl [L6]; · iexact L6
  isplitl [S0]; · iexact S0
  isplitl [S1]; · iexact S1
  isplitl [S2]; · iexact S2
  isplitl [R0]; · iexact R0
  isplitl [R1]; · iexact R1
  isplitl [R2]; · iexact R2
  iexact E

/-! ## The ghost state -/

theorem csem_injective : Function.Injective csem := by decide
theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨kcell, kcell_injective⟩

/-- The duties of a device's own cells at distance `j.1`: on its barrier, exit, receive and send cell. -/
abbrev dutyAt (j : Fin 3 × Fin 4) : SemLoc sig × Fin 3 := match j.2 with
  | 0 => (.reg barS, j.1) | 1 => (.reg exitS, j.1) | 2 => (.dma (recvS j.1), 0) | 3 => (.dma (sendS j.1), 0)
theorem dutyAt_injective : Function.Injective dutyAt := by decide
abbrev tokOf (cj : Dev nD × (Fin 3 × Fin 4)) : GSem nD τ sig × ℕ × Fin 3 :=
  (((cj.1 : Thread nD τ), (dutyAt cj.2).1), 0, (dutyAt cj.2).2)
theorem tokOf_injective : Function.Injective (tokOf : Dev nD × (Fin 3 × Fin 4) → GSem nD τ sig × ℕ × Fin 3) := by
  rintro ⟨c, j⟩ ⟨c', j'⟩ h
  have h1 : c = c' := congrArg (fun x : GSem nD τ sig × ℕ × Fin 3 => x.1.1.1) h
  have h2 : j = j' := dutyAt_injective (congrArg (fun x : GSem nD τ sig × ℕ × Fin 3 => (x.1.2, x.2.2)) h)
  rw [h1, h2]
def exToks : Finset (GSem nD τ sig × ℕ × Fin 3) := Finset.univ.map ⟨tokOf, tokOf_injective⟩

/-- What the run's ghost state starts as. -/
def u₀ : UU := (initOf (Pipeline.cells cfgs cellOf_inj) (Pipeline.launchToks cfgs cellOf_inj), (initOf exCells exToks, 1))

theorem u₀_split : (ownU u₀ : sProp 𝕄)
    ⊢ iprop(BI.own (EP (initOf (Pipeline.cells cfgs cellOf_inj) (Pipeline.launchToks cfgs cellOf_inj))) ∗ BI.own (EX (initOf exCells exToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf exCells exToks, (1 : Counters)))))

/-- The duty tokens of device `c`'s own cells at distance `d`, and at all distances. -/
def ownDues (c : Dev nD) (d : Fin 3) : sProp 𝕄 :=
  iprop(dutyTok EX (barCell c) 0 d ∗ dutyTok EX (exitCell c) 0 d ∗ dutyTok EX (recvCell c d) 0 0 ∗ dutyTok EX (sendCell c d) 0 0)
def toks (c : Dev nD) : sProp 𝕄 := iprop(ownDues (F := F) c 0 ∗ ownDues (F := F) c 1 ∗ ownDues (F := F) c 2)

/-- What device `c` is dealt of the ghost state, -/
def G (c : Dev nD) : sProp 𝕄 :=
  iprop((bigSep Finset.univ fun k : Fin 8 => roundState EX (sched m sent) (kcell (c, k)) 0)
    ∗ (bigSep Finset.univ fun k : Fin 8 => iprop(atPos EX (kcell (c, k)) 0 ∅ 0 ∗ reached EX (kcell (c, k)) 0)) ∗ toks (F := F) c)
/-- and what is made of it and of the counters. -/
def G' (c : Dev nD) : sProp 𝕄 := iprop((∃ K, ghost m sent K c) ∗ loadSems (F := F) c)

theorem fund_ex : BI.own (EX (initOf exCells exToks)) ⊢ (|==> bigSep Finset.univ (G m sent) : sProp 𝕄) := by
  have hX (Φ : GSem nD τ sig → sProp 𝕄) : bigSep exCells Φ = bigSep Finset.univ fun c : Dev nD => bigSep Finset.univ fun k : Fin 8 => Φ (kcell (c, k)) := by
    unfold exCells; rw [bigSep_map, bigSep_univ_prod]; rfl
  have hT : bigSep exToks (fun x => (dutyTok EX x.1 x.2.1 x.2.2 : sProp 𝕄)) = bigSep Finset.univ fun c : Dev nD => toks (F := F) c := by
    unfold exToks
    rw [bigSep_map, bigSep_univ_prod]
    refine bigSep_congr fun c _ => ?_
    rw [bigSep_univ_prod, sep_fin3, sep_fin4, sep_fin4, sep_fin4]
    rfl
  iintro HX
  imod (Rounds.fund EX (sched m sent) exCells exToks) $$ HX with ⟨Hst, Hr, Hat, Htok⟩
  imodintro
  ihave Hst' := (Entails.of_eq (hX fun g => roundState EX (sched m sent) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's cells put under invariants. -/
theorem core_alloc (c : Dev nD) :
    iprop(Pipeline.ownSems0 (Ix := Unit) (Name := ℕ) (U := UU) (Lvl := ℕ) (Val := Elt F) (τ := τ) osem c ∗ unscopedSems0 c ∗ G m sent c)
      ⊢ |={Set.univ}=> iprop((bigSep Finset.univ fun k => iprop(∃ κ : ℕ, cellInv EX (sched m sent) κ (kcell (c, k))))
          ∗ (bigSep Finset.univ fun k => iprop(atPos EX (kcell (c, k)) 0 ∅ 0 ∗ reached EX (kcell (c, k)) 0)) ∗ toks (F := F) c ∗ loadSems (F := F) c) := by
  unfold G
  iintro ⟨Hos, Hus, Hst, Hat, Htok⟩
  ihave Hv := (sems_split (F := F) c) $$ [Hos Hus]
  · isplitl [Hos] <;> iassumption
  icases Hv with ⟨Hl, Hv⟩
  imod (show iprop((bigSep Finset.univ fun k : Fin 8 => semVal (kcell (c, k)) 0) ∗ bigSep Finset.univ fun k : Fin 8 => roundState EX (sched m sent) (kcell (c, k)) 0)
      ⊢ (|={Set.univ}=> bigSep Finset.univ fun k => iprop(∃ κ : ℕ, cellInv EX (sched m sent) κ (kcell (c, k))) : sProp 𝕄) from by
        rw [← bigSep_sep']
        exact (bigSep_mono fun k _ => (Rounds.body_intro EX (sched m sent) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The shared facts: every cell's invariant and that every cell has reached round 0. -/
def records (K : Dev nD × Fin 8 → ℕ) : sProp 𝕄 :=
  iprop((bigSep Finset.univ fun ck : Dev nD × Fin 8 => cellInv EX (sched m sent) (K ck) (kcell ck))
    ∗ bigSep Finset.univ fun ck : Dev nD × Fin 8 => reached EX (kcell ck) 0)
instance records_persistent (K : Dev nD × Fin 8 → ℕ) : BI.Persistent (records m sent K) := by unfold records; infer_instance

theorem inv_at (K : Dev nD × Fin 8 → ℕ) (ck : Dev nD × Fin 8) : records m sent K ⊢ cellInv EX (sched m sent) (K ck) (kcell ck) := by
  unfold records
  exact sep_elim_left.trans (bigSep_elim (Finset.mem_univ ck))
theorem reached_at (K : Dev nD × Fin 8 → ℕ) (ck : Dev nD × Fin 8) : records m sent K ⊢ reached EX (kcell ck) 0 := by
  unfold records
  exact sep_elim_right.trans (bigSep_elim (Finset.mem_univ ck))

theorem invs_of (K : Dev nD × Fin 8 → ℕ) (c : Dev nD) : records m sent K ⊢ invs m sent K c := by
  unfold invs
  iintro #H
  isplitr
  · isplitr; · iapply (inv_at m sent K (c, 0)); iexact H
    isplitr; · iapply (inv_at m sent K (c, 1)); iexact H
    isplitr
    · isplitr; · iapply (inv_at m sent K (c, 2)); iexact H
      isplitr; · iapply (inv_at m sent K (c, 3)); iexact H
      iapply (inv_at m sent K (c, 4)); iexact H
    isplitr; · iapply (inv_at m sent K (c, 5)); iexact H
    isplitr; · iapply (inv_at m sent K (c, 6)); iexact H
    iapply (inv_at m sent K (c, 7)); iexact H
  isplitr
  · isplitr; · iapply (inv_at m sent K (peer c 0, 0)); iexact H
    isplitr; · iapply (inv_at m sent K (peer c 0, 1)); iexact H
    iapply (inv_at m sent K (peer c 0, 5)); iexact H
  isplitr
  · isplitr; · iapply (inv_at m sent K (peer c 1, 0)); iexact H
    isplitr; · iapply (inv_at m sent K (peer c 1, 1)); iexact H
    iapply (inv_at m sent K (peer c 1, 6)); iexact H
  isplitr; · iapply (inv_at m sent K (peer c 2, 0)); iexact H
  isplitr; · iapply (inv_at m sent K (peer c 2, 1)); iexact H
  iapply (inv_at m sent K (peer c 2, 7)); iexact H

theorem met_of (K : Dev nD × Fin 8 → ℕ) (c : Dev nD) : records m sent K ⊢ iprop(metAt (F := F) c 0 ∗ metAt (F := F) c 1 ∗ metAt (F := F) c 2) := by
  unfold metAt
  iintro #H
  isplitr
  · isplitr; · iapply (reached_at m sent K (peer c 0, 0)); iexact H
    isplitr; · iapply (reached_at m sent K (peer c 0, 1)); iexact H
    isplitr; · iapply (reached_at m sent K (c, 5)); iexact H
    iapply (reached_at m sent K (c, 2)); iexact H
  isplitr
  · isplitr; · iapply (reached_at m sent K (peer c 1, 0)); iexact H
    isplitr; · iapply (reached_at m sent K (peer c 1, 1)); iexact H
    isplitr; · iapply (reached_at m sent K (c, 6)); iexact H
    iapply (reached_at m sent K (c, 3)); iexact H
  isplitr; · iapply (reached_at m sent K (peer c 2, 0)); iexact H
  isplitr; · iapply (reached_at m sent K (peer c 2, 1)); iexact H
  isplitr; · iapply (reached_at m sent K (c, 7)); iexact H
  iapply (reached_at m sent K (c, 4)); iexact H

/-- The duty tokens device `c` pays with. -/
def dues (c : Dev nD) : sProp 𝕄 := iprop(duesAt (F := F) c 0 ∗ duesAt (F := F) c 1 ∗ duesAt (F := F) c 2)

/-- The tokens dealt around: those of the cells at distance `d` ahead go to the device that pays them. -/
theorem dues_turn (d : Fin 3) : (bigSep Finset.univ fun c : Dev nD => (ownDues (F := F) c d : sProp 𝕄)) ⊢ bigSep Finset.univ fun c : Dev nD => duesAt (F := F) c d := by
  unfold ownDues duesAt
  rw [bigSep_sep', bigSep_sep', bigSep_sep', bigSep_sep', bigSep_sep', bigSep_sep',
    bigSep_univ_equiv (turn d) (fun c : Dev nD => (dutyTok EX (barCell c) 0 d : sProp 𝕄)),
    bigSep_univ_equiv (turn d) (fun c : Dev nD => (dutyTok EX (exitCell c) 0 d : sProp 𝕄)),
    bigSep_univ_equiv (turn d) (fun c : Dev nD => (dutyTok EX (recvCell c d) 0 0 : sProp 𝕄))]
  exact .rfl
theorem toks_turn : (bigSep Finset.univ fun c : Dev nD => (toks (F := F) c : sProp 𝕄)) ⊢ bigSep Finset.univ fun c : Dev nD => dues (F := F) c := by
  unfold toks dues
  rw [bigSep_sep', bigSep_sep', bigSep_sep', bigSep_sep']
  exact BIClass.sep_mono (dues_turn 0) (BIClass.sep_mono (dues_turn 1) (dues_turn 2))

/-- What stays with device `c`. -/
def linear (c : Dev nD) : sProp 𝕄 := iprop((bigSep Finset.univ fun k : Fin 8 => atPos EX (kcell (c, k)) 0 ∅ 0) ∗ dues (F := F) c ∗ loadSems (F := F) c)

theorem stands_of (c : Dev nD) : (bigSep Finset.univ fun k : Fin 8 => (atPos EX (kcell (c, k)) 0 ∅ 0 : sProp 𝕄)) ⊢ stands c := by
  rw [sep_fin8]
  unfold stands
  iintro ⟨B, E, S0, S1, S2, R0, R1, R2⟩
  isplitl [B]; · iexact B
  isplitl [E]; · iexact E
  isplitl [S0 S1 S2]
  · isplitl [S0]; · iexact S0
    isplitl [S1]; · iexact S1
    iexact S2
  isplitl [R0]; · iexact R0
  isplitl [R1]; · iexact R1
  iexact R2

theorem ghost_intro (K : Dev nD × Fin 8 → ℕ) (c : Dev nD) : iprop(records m sent K ∗ linear (F := F) c) ⊢ G' m sent c := by
  unfold linear G' ghost
  iintro ⟨#HR, Hat, Hd, Hl⟩
  isplitr [Hl]
  · iexists K
    isplitr; · iapply (invs_of m sent K c); iexact HR
    isplitl [Hd]; · unfold dues; iexact Hd
    isplitr; · iapply (met_of m sent K c); iexact HR
    iapply (stands_of (F := F) c); iexact Hat
  iexact Hl

theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (sched m sent) κ (kcell (c, k))))
          ∗ (bigSep Finset.univ fun k => iprop(atPos EX (kcell (c, k)) 0 ∅ 0 ∗ reached EX (kcell (c, k)) 0)) ∗ toks (F := F) c ∗ loadSems (F := F) c) : sProp 𝕄)
      ⊢ bigSep Finset.univ (G' m sent) := by
  rw [bigSep_sep', bigSep_sep', bigSep_sep', ← bigSep_univ_prod (fun ck : Dev nD × Fin 8 => iprop(∃ κ : ℕ, cellInv EX (sched m sent) κ (kcell ck))),
    bigSep_congr (s := Finset.univ) (fun (c : Dev nD) _ => bigSep_sep' Finset.univ (fun k : Fin 8 => (atPos EX (kcell (c, k)) 0 ∅ 0 : sProp 𝕄)) (fun k => reached EX (kcell (c, k)) 0)),
    bigSep_sep', ← bigSep_univ_prod (fun ck : Dev nD × Fin 8 => (reached EX (kcell ck) 0 : sProp 𝕄))]
  iintro ⟨HI, ⟨Hat, #HR⟩, Htok, Hl⟩
  ihave HK := (BI.bigSep_exists_pi Finset.univ (fun (ck : Dev nD × Fin 8) (κ : ℕ) => (cellInv EX (sched m sent) κ (kcell ck) : sProp 𝕄))) $$ HI
  icases HK with ⟨%K, #HI⟩
  ihave Htk := (toks_turn (F := F)) $$ Htok
  iapply (sep_with (R := records m sent K) fun c _ => ghost_intro m sent K c)
  isplitr
  · unfold records; isplitl; · iexact HI
    iexact HR
  · unfold linear
    rw [bigSep_sep', bigSep_sep']
    isplitl [Hat]; · iexact Hat
    isplitl [Htk] <;> iassumption

/-- The launch's one step over all devices at once. -/
theorem glob : (bigSep Finset.univ fun c => iprop(Pipeline.ownSems0 (Ix := Unit) (Name := ℕ) (U := UU) (Lvl := ℕ) (Val := Elt F) (τ := τ) osem c ∗ unscopedSems0 c ∗ G m sent c) : sProp 𝕄)
    ⊢ |={Set.univ}=> bigSep Finset.univ (G' m sent) :=
  ((bigSep_mono fun c _ => core_alloc m sent c).trans (bigSep_fupd _ _)).trans (BI.fupd_mono (regroup m sent))

/-! ## The credits -/

/-- One unit, or one transfer, owed by every device to the device `d + 1` steps ahead of it is one owed to every device. -/
theorem cred_turn (sm : SemLoc sig) (d : Fin 3) (k : ℕ) (c : Dev nD) :
    (Pipeline.launchCred (fun e => tallyAt (((peer e d : Dev nD) : Thread nD τ), sm) () k) c : sProp 𝕄) ⊢ cred (tallyAt ((c : Thread nD τ), sm) () k) :=
  Pipeline.launchCred_tallyAt sm (fun e => peer e d) (fun e => peer e (rev d)) (fun e => rev_peer e d) (fun e => peer_rev e d) () k c

theorem three_units (g : GSem nD τ sig) : iprop(cred (tallyAt g () 1) ∗ cred (tallyAt g () 1) ∗ cred (tallyAt g () 1)) ⊢ (cred (tallyAt g () 3) : sProp 𝕄) := by
  refine (sep_mono_right (cred_add _ _).2).trans ((cred_add _ _).2.trans (Entails.of_eq ?_))
  rw [tallyAt_add, tallyAt_add]

theorem credits_of (c : Dev nD) : (Pipeline.launchCred O₀ c : sProp 𝕄) ⊢ credits c := by
  have e9 : (Pipeline.launchCred O₀ c : sProp 𝕄) = iprop(Pipeline.launchCred OB₂ c ∗ Pipeline.launchCred (fun e => tallyAt (barCell (peer e 0)) () 1) c) := Pipeline.launchCred_add _ _ c
  have e8 : (Pipeline.launchCred OB₂ c : sProp 𝕄) = iprop(Pipeline.launchCred OB₁ c ∗ Pipeline.launchCred (fun e => tallyAt (barCell (peer e 1)) () 1) c) := Pipeline.launchCred_add _ _ c
  have e7 : (Pipeline.launchCred OB₁ c : sProp 𝕄) = iprop(Pipeline.launchCred OR₃ c ∗ Pipeline.launchCred (fun e => tallyAt (barCell (peer e 2)) () 1) c) := Pipeline.launchCred_add _ _ c
  have e6 : (Pipeline.launchCred OR₃ c : sProp 𝕄) = iprop(Pipeline.launchCred OR₂ c ∗ Pipeline.launchCred (fun e => tallyAt (recvCell (peer e 0) 0) () N) c) := Pipeline.launchCred_add _ _ c
  have e5 : (Pipeline.launchCred OR₂ c : sProp 𝕄) = iprop(Pipeline.launchCred OR₁ c ∗ Pipeline.launchCred (fun e => tallyAt (recvCell (peer e 1) 1) () N) c) := Pipeline.launchCred_add _ _ c
  have e4 : (Pipeline.launchCred OR₁ c : sProp 𝕄) = iprop(Pipeline.launchCred OE₃ c ∗ Pipeline.launchCred (fun e => tallyAt (recvCell (peer e 2) 2) () N) c) := Pipeline.launchCred_add _ _ c
  have e3 : (Pipeline.launchCred OE₃ c : sProp 𝕄) = iprop(Pipeline.launchCred OE₂ c ∗ Pipeline.launchCred (fun e => tallyAt (exitCell (peer e 0)) () 1) c) := Pipeline.launchCred_add _ _ c
  have e2 : (Pipeline.launchCred OE₂ c : sProp 𝕄) = iprop(Pipeline.launchCred OE₁ c ∗ Pipeline.launchCred (fun e => tallyAt (exitCell (peer e 1)) () 1) c) := Pipeline.launchCred_add _ _ c
  have e1 : (Pipeline.launchCred OE₁ c : sProp 𝕄) = Pipeline.launchCred (fun e => tallyAt (exitCell (peer e 2)) () 1) c := rfl
  rw [e9, e8, e7, e6, e5, e4, e3, e2, e1]
  unfold credits
  iintro ⟨⟨⟨⟨⟨⟨⟨⟨E2, E1⟩, E0⟩, R2⟩, R1⟩, R0⟩, B2⟩, B1⟩, B0⟩
  ihave E2' := (cred_turn (F := F) (.reg exitS) 2 1 c) $$ E2
  ihave E1' := (cred_turn (F := F) (.reg exitS) 1 1 c) $$ E1
  ihave E0' := (cred_turn (F := F) (.reg exitS) 0 1 c) $$ E0
  ihave R2' := (cred_turn (F := F) (.dma (recvS 2)) 2 N c) $$ R2
  ihave R1' := (cred_turn (F := F) (.dma (recvS 1)) 1 N c) $$ R1
  ihave R0' := (cred_turn (F := F) (.dma (recvS 0)) 0 N c) $$ R0
  ihave B2' := (cred_turn (F := F) (.reg barS) 2 1 c) $$ B2
  ihave B1' := (cred_turn (F := F) (.reg barS) 1 1 c) $$ B1
  ihave B0' := (cred_turn (F := F) (.reg barS) 0 1 c) $$ B0
  isplitl [B0' B1' B2']
  · iapply (three_units (F := F) (barCell c))
    isplitl [B0']; · iexact B0'
    isplitl [B1'] <;> iassumption
  isplitl [E0' E1' E2']
  · iapply (three_units (F := F) (exitCell c))
    isplitl [E0']; · iexact E0'
    isplitl [E1'] <;> iassumption
  isplitl [R0']; · iexact R0'
  isplitl [R1'] <;> iassumption

end Cert.KernelIdeal.Exchange

end
-- ==== Proof.Run.lean ====
/-
The run of the whole program: from any memory with every counter at zero every weakly fair execution ends, with each device's
result at the total of its own part and the three parts it received, the arguments as given and every counter at zero.
-/
module

public import proofs.«01_k».proof.Proof.Deal
public import proofs.«01_k».proof.Proof.Gen.KernelIdeal.Points
public import Idealize.ShloMosaic.Lib.Pipeline.ValueKit
public import Idealize.ShloMosaic.Lib.Pipeline.CollectiveSegs
public import Idealize.ShloMosaic.Lib.Quiescent

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` starts from, -/
def start (c : Dev nD) : sProp 𝕄 := iprop(G' m (sentOut m) c ∗ credits c ∗ levAts L lv ∗ args m c)
/-- what it holds as the body starts, -/
def Φ₀ (c : Dev nD) : sProp 𝕄 := iprop(start m c ∗ scratch (F := F) c)
/-- and once it has run. -/
def Φ₁ (c : Dev nD) : sProp 𝕄 := iprop(args m c ∗ loadSems (F := F) c ∗ zeros (F := F) c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => total m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The output's staging buffer at contents `X`. -/
abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (total m c))

theorem body_obligation (c : Dev nD) : BodyObligation (dats (F := F) m 0 c) (defs₀ (F := F)) 𝒱₀ () Set.univ := fun t => by
  rw [show t = t0_0 from fin_N0 t]
  rw [bigSep_W, bigSep_W]
  simp only [owns_whole_eq]
  show bodyPre m c ⊢ wp frame (wpE (defs₀ (F := F)) 𝒱₀ c none) Set.univ kernelBody (fun _ => bodyPost m c)
  unfold bodyPre Φ₀ start G'
  iintro ⟨⟨⟨⟨⟨%K, Hg⟩, Hl⟩, Hc, Hlev, Ha⟩, Hscr⟩, Ho, ⟨%d, ⟨%f, -, Hs⟩⟩⟩
  unfold Dat.owesAt Pipeline.owesWithin
  icases Ho with ⟨%W, %hW, HO⟩
  rw [show (dats m 0 c).owed t0_0.castSucc = O₀ c from rfl]
  iapply (sound_body m K c W fun _ => bodyPost m c)
  isplitr []
  · isplitl [Hlev]; · iexact Hlev
    isplitl [Hg]; · iexact Hg
    isplitl [Hc]; · iexact Hc
    isplitl [Ha]; · iexact Ha
    isplitl [Hl]; · iexact Hl
    isplitl [Hscr]; · iexact Hscr
    isplitl [Hs]; · iexists f; iexact Hs
    iexact HO
  · iintro %W' ⟨Ha, Hl, Hz, Hscr, Hs, HO⟩
    unfold bodyPost Φ₁
    isplitl [Ha Hl Hz Hscr]
    · isplitl [Ha]; · iexact Ha
      isplitl [Hl]; · iexact Hl
      isplitl [Hz]; · iexact Hz
      iexact Hscr
    isplitl [HO]
    · unfold Dat.owesAt Pipeline.owesWithin
      rw [show (dats m 0 c).owed t0_0.succ = 0 from rfl]
      iexists W'
      isplitr
      · ipureintro; exact fun _ _ => Or.inl trivial
      iexact HO
    iexists (total m c)
    isplitr; · ipureintro; rfl
    iexact Hs

/-! ## The launch -/

theorem share_eq (c : Dev nD) (w : Fin cfg0.W) : (dats m 0 c).share w = fullShare := (dats m 0 c).share_full (fun _ => rfl) w

/-- The arguments' buffers are those the launch leaves out of the windows. -/
theorem args_eq (c : Dev nD) :
    (Pipeline.unscopedRestP (Ix := Unit) (Name := ℕ) (U := UU) (Lvl := ℕ) Pipeline.Prefetch.none cfg0.spec c (fun b => m ((c : Thread nD τ).loc b)) : sProp 𝕄) = args m c := by
  rw [Pipeline.unscopedRestP_none]
  exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m (sentOut m) c)
      ⊢ |={Set.univ}=> iprop(start m c ∗ emp) := by
  rw [args_eq]
  iintro ⟨Ha, Hlev, Hcr, -, HG⟩
  ihave Hc := (credits_of (F := F) c) $$ Hcr
  imodintro
  unfold start
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_of_rest (F := F) c); iexact Hr

/-- What a device holds at the end. -/
def finish (c : Dev nD) : sProp 𝕄 :=
  iprop(Pipeline.unscopedRestP Pipeline.Prefetch.none cfg0.spec c (fun b => m ((c : Thread nD τ).loc b)) ∗ unscopedSems0 c)

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl]
  unfold finish
  rw [args_eq]
  unfold Φ₁
  iintro ⟨Ha, Hl, Hz, Hscr⟩
  ihave Hs := (sems_join (F := F) c) $$ [Hl Hz]
  · isplitl [Hl] <;> iassumption
  icases Hs with ⟨Hu, Ho⟩
  isplitl [Ha Hu]
  · isplitl [Ha] <;> iassumption
  isplitl [Ho]; · iexact Ho
  iapply (rest_of_scratch (F := F) c); iexact Hscr

theorem waits (c : Dev nD) : (levAts L lv : sProp 𝕄) ⊢ Pipeline.cellsWaits cfgs (dats m) () 0 c :=
  Pipeline.cellsWaits_intro cfgs (dats m) () 0 c fun w s t =>
    mayWait c _ 0 (le_of_eq (lv_low c _ (by revert w s; decide))) _ (by
      rcases t with ⟨_ | _, ht⟩
      · exact above_O₀ c
      · exact above_zero 0)

/-! ## The run -/

/-- The result array of device `c` at the end. -/
theorem out_eq (c : Dev nD) : (dats m 0 c).arrAt (0 : Fin 1) cfg0.N = total m c := by
  refine (dats m 0 c).arrAt_eq_of_after_last (0 : Fin 1) t0_0 (by decide +kernel) _ fun j => ?_
  rfl

/-- What the run ends in. -/
def Ends (s : MemSt nD τ sig (Elt F)) : Prop := ∀ c : Dev nD,
  s.mem ((c : Thread nD τ).loc main_v1) = total m c
    ∧ (∀ b ∈ Pipeline.restRefsP sig Pipeline.Prefetch.none cfg0.spec, s.mem ((c : Thread nD τ).loc b) = m ((c : Thread nD τ).loc b))

theorem run_main : θ_run defs (onTc (τ := τ) (main (F := F))) ⟨m, fun _ => 0, ρ⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m (sentOut m)) (G' := G' m (sentOut m)) (u₀ := u₀)
    (hu₀ := by
      iintro Hu
      ihave H := (u₀_split (F := F)) $$ Hu
      icases H with ⟨HP, HX⟩
      imod (fund_ex m (sentOut m)) $$ HX with HG
      imodintro
      isplitl [HP] <;> iassumption)
    (hglob := glob m (sentOut m))
    (hA := fun _ _ => rfl) (hpf := fun _ k => k.elim0)
    (X := start m) (Y := finish m) (Z := fun _ => iprop(emp))
    (hX := start_intro m ρ) (hin := phi0_intro m) (hout := phi1_exit m)
    (QY := fun c s => (∀ b ∈ Pipeline.restRefsP sig Pipeline.Prefetch.none cfg0.spec, s.mem ((c : Thread nD τ).loc b) = m ((c : Thread nD τ).loc b))
      ∧ ∀ sm : SemLoc sig, sm.isScoped .tc = false → s.sem ((c.tc : Thread nD τ), sm) = 0)
    (hY := fun c s' => by
      unfold finish Pipeline.unscopedRestP
      iintro ⟨⟨Ha, Hu⟩, -, HSI⟩
      ihave H := (pointsTo_read_all (Pipeline.restRefsP sig Pipeline.Prefetch.none cfg0.spec) (fun b => (c : Thread nD τ).loc b)
        (fun b => m ((c : Thread nD τ).loc b)) s') $$ [Ha HSI]
      · isplitl [Ha] <;> iassumption
      icases H with ⟨%hm, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hm, hs⟩
      iexact HSI)
    (hQ := fun s h hs => ⟨fun c => ⟨((h c).1 (0 : Fin 1)).trans (out_eq m c), (h c).2.2.1⟩, sem_eq_zero hs fun c => (h c).2.2.2⟩)

/-- The arguments at the end, one by one. -/
theorem ends_args {s : MemSt nD τ sig (Elt F)} (h : Ends m s) (c : Dev nD) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4) :=
  ⟨(h c).2 main_arg0 (by decide), (h c).2 main_arg1 (by decide), (h c).2 main_arg2 (by decide), (h c).2 main_arg3 (by decide), (h c).2 main_arg4 (by decide)⟩

end Cert.KernelIdeal.Exchange

end
-- ==== Proof.Math.lean ====
/-
# The attention as sums over extended reals

For any whole arguments: a query element, a score, the softmax mean of the values under the scores, the attention's output
before its projection, and the projected output. Both programs' results are read as these. Beside them the two facts of
arithmetic the comparison needs: the scale, a positive number, may be taken out of a dot product, and a sum over 4096
positions is the sum over four blocks of eight heads of 128.
-/
module

public import Idealize.ShloMosaic.Lib.Pointwise

@[expose] public section

noncomputable section

namespace Cert.Attention

open Idealize.ShloMosaic
open scoped BigOperators

/-- The scale the programs multiply by, the value of its single-precision word. -/
abbrev scale : EReal := Ideal.ofBits .f32 0x3DB504F3#32

/-- The scale is a real number that is not negative. -/
theorem scale_real : ∃ r : ℝ, 0 ≤ r ∧ scale = (r : EReal) := by
  refine ⟨11863283 / 134217728, by norm_num, ?_⟩
  simp [scale, Ideal.ofBits, Ideal.ieee, -EReal.coe_mul]; norm_num

/-- A factor that is a real number and not negative may be taken out of a finite sum of extended reals. -/
theorem sum_mul_scale {n : ℕ} (f : Fin n → EReal) : (∑ i, f i) * scale = ∑ i, f i * scale := by
  obtain ⟨r, hr, hs⟩ := scale_real
  have h0 : (0 : EReal) ≤ scale := by rw [hs]; exact EReal.coe_nonneg.mpr hr
  have h1 : scale ≠ ⊤ := by rw [hs]; exact EReal.coe_ne_top r
  induction n with
  | zero => simp
  | succ n ih => rw [Fin.sum_univ_succ, Fin.sum_univ_succ, EReal.right_distrib_of_nonneg_of_ne_top h0 h1, ih]

/-- Scaling the left factors of a dot product scales the product. -/
theorem dot_scale {n : ℕ} (a b : Fin n → EReal) : ∑ i, (a i * scale) * b i = (∑ i, a i * b i) * scale := by
  rw [sum_mul_scale]
  exact Finset.sum_congr rfl fun i _ => mul_right_comm _ _ _

/-- The largest of the scores. -/
def top (s : Fin 4096 → EReal) : EReal := Finset.fold max (Ideal.ofBits .f32 0xFF800000#32) s Finset.univ

/-- The mean of `w` weighted by the exponentials of the scores less the largest. -/
def soft (s w : Fin 4096 → EReal) : EReal :=
  Ideal.div (∑ j, Ideal.exp (s j - top s) * w j) (∑ j, Ideal.exp (s j - top s))

/-- The whole arguments' shapes: the input, -/
abbrev XS : Shape := ⟨3, ![1, 256, 1024]⟩
/-- the query weights, -/
abbrev QS : Shape := ⟨2, ![1024, 4096]⟩
/-- the keys and the values, -/
abbrev KS : Shape := ⟨4, ![1, 4096, 8, 128]⟩
/-- the output weights. -/
abbrev OS : Shape := ⟨2, ![4096, 1024]⟩

/-- A query element: row `i` of the input times column `n` of the query weights. -/
def query (x : XS.Idx → EReal) (wq : QS.Idx → EReal) (i : Fin 256) (n : Fin 4096) : EReal :=
  ∑ e : Fin 1024, x (ix3 0 i e) * wq (ix2 e n)

/-- Head `h`'s scaled score of row `i` against key row `j`; the head reads the keys of head `h / 4`. -/
def score (x : XS.Idx → EReal) (wq : QS.Idx → EReal) (k : KS.Idx → EReal) (h : Fin 32) (i : Fin 256) (j : Fin 4096) : EReal :=
  (∑ d : Fin 128, query x wq i ⟨h.val * 128 + d.val, by omega⟩ * k (ix4 0 j ⟨h.val / 4, by omega⟩ d)) * scale

/-- Position `d` of head `h`'s output in row `i`. -/
def head (x : XS.Idx → EReal) (wq : QS.Idx → EReal) (k v : KS.Idx → EReal) (i : Fin 256) (h : Fin 32) (d : Fin 128) : EReal :=
  soft (score x wq k h i) fun j => v (ix4 0 j ⟨h.val / 4, by omega⟩ d)

/-- One element of the output: the heads' outputs side by side times the output weights. -/
def output (x : XS.Idx → EReal) (wq : QS.Idx → EReal) (k v : KS.Idx → EReal) (wo : OS.Idx → EReal) (i : Fin 256) (o : Fin 1024) : EReal :=
  ∑ n : Fin 4096, head x wq k v i ⟨n.val / 128, by omega⟩ ⟨n.val % 128, Nat.mod_lt _ (by norm_num)⟩ * wo (ix2 n o)

/-- One device's part of it: heads `8 c` to `8 c + 7` and their rows of the output weights. -/
def share (x : XS.Idx → EReal) (wq : QS.Idx → EReal) (k v : KS.Idx → EReal) (wo : OS.Idx → EReal) (c : Fin 4) (i : Fin 256) (o : Fin 1024) : EReal :=
  ∑ h : Fin 8, ∑ d : Fin 128, head x wq k v i ⟨8 * c.val + h.val, by omega⟩ d
    * wo (ix2 ⟨1024 * c.val + (128 * h.val + d.val), by omega⟩ o)

/-- A sum over `a · b` positions is the sum over `a` blocks of the sums over their `b` positions. -/
theorem sum_blocks (a b : ℕ) (f : ℕ → EReal) : ∑ n : Fin (a * b), f n.val = ∑ p : Fin a, ∑ q : Fin b, f (b * p.val + q.val) := by
  rw [← Fintype.sum_prod_type', ← finProdFinEquiv.sum_comp]
  exact Finset.sum_congr rfl fun p _ => congrArg f (by simp [finProdFinEquiv, add_comm])

/-- The output is the sum of the four devices' parts. -/
theorem output_eq (x : XS.Idx → EReal) (wq : QS.Idx → EReal) (k v : KS.Idx → EReal) (wo : OS.Idx → EReal) (i : Fin 256) (o : Fin 1024) :
    output x wq k v wo i o = ∑ c : Fin 4, share x wq k v wo c i o := by
  have key : ∀ f : Fin 4096 → EReal,
      ∑ n, f n = ∑ c : Fin 4, ∑ h : Fin 8, ∑ d : Fin 128, f ⟨1024 * c.val + (128 * h.val + d.val), by omega⟩ := by
    intro f
    let g : ℕ → EReal := fun n => if hn : n < 4096 then f ⟨n, hn⟩ else 0
    have e₀ : ∑ n, f n = ∑ n : Fin (4 * 1024), g n.val :=
      Finset.sum_congr rfl fun n _ => by simp only [g]; rw [dif_pos n.isLt]
    rw [e₀, sum_blocks 4 1024]
    refine Finset.sum_congr rfl fun c _ => ?_
    rw [sum_blocks 8 128 fun n => g (1024 * c.val + n)]
    refine Finset.sum_congr rfl fun h _ => Finset.sum_congr rfl fun d _ => ?_
    simp only [g]
    rw [dif_pos (by omega)]
  rw [output, key]
  refine Finset.sum_congr rfl fun c _ => Finset.sum_congr rfl fun h _ => Finset.sum_congr rfl fun d _ => ?_
  have e₁ : (⟨(1024 * c.val + (128 * h.val + d.val)) / 128, by omega⟩ : Fin 32) = ⟨8 * c.val + h.val, by omega⟩ :=
    Fin.ext (by show (1024 * c.val + (128 * h.val + d.val)) / 128 = 8 * c.val + h.val; omega)
  have e₂ : (⟨(1024 * c.val + (128 * h.val + d.val)) % 128, Nat.mod_lt _ (by norm_num)⟩ : Fin 128) = d :=
    Fin.ext (by show (1024 * c.val + (128 * h.val + d.val)) % 128 = d.val; omega)
  rw [e₁, e₂]

end Cert.Attention
-- ==== Proof.KerHeads.lean ====
/-
# The kernel's heads and their projection at an index, over extended reals

Each of the eight heads is the same function of its query columns, its keys and its values (`localHead`), and the projection
of the eight outputs side by side is the sum of their projections.
-/
module

public import proofs.«01_k».proof.Proof.Math
public import proofs.«01_k».proof.Proof.Device

@[expose] public section

noncomputable section

namespace Cert.KernelIdeal.Exchange

open Cert.KernelIdeal Cert.KernelIdeal.Gen Cert.Attention
open Idealize.ShloMosaic
open Idealize.ShloMosaic.TcCoe
open scoped BigOperators

/-- One local head at an index: the softmax mean of the values under the products of the head's 128 query columns, from
    column `o` on, with the keys. -/
def localHead (q : FVec Ideal S256x1024 .bf16) (k v : FVec Ideal S4096x128 .bf16) (o : ℕ) (ho : o + 128 ≤ 1024) (i : Fin 256) (d : Fin 128) : EReal :=
  soft (fun j => ∑ e : Fin 128, q (ix2 i ⟨o + e.val, by omega⟩) * k (ix2 j e)) fun j => v (ix2 j d)

section Heads

variable (q : FVec Ideal S256x1024 .bf16) (k v : FVec Ideal S4096x128 .bf16) (i : Fin 256) (d : Fin 128)

/-- Heads 0 to 7 of the kernel are local heads, at columns 0, 128, …, 896. -/
theorem head0 : k0_pay6 q k v (ix2 i d) = localHead q k v 0 (by norm_num) i d := by
  pointwise [k0_pay6]
  simp only [localHead, soft, top, Nat.zero_add]
theorem head1 : k0_pay8 v (k0_pay7 q k) (ix2 i d) = localHead q k v 128 (by norm_num) i d := by
  pointwise [k0_pay8, k0_pay7]
  rfl
theorem head2 : k0_pay9 q k v (ix2 i d) = localHead q k v 256 (by norm_num) i d := by
  pointwise [k0_pay9]
  rfl
theorem head3 : k0_pay10 q k v (ix2 i d) = localHead q k v 384 (by norm_num) i d := by
  pointwise [k0_pay10]
  rfl
theorem head4 : k0_pay12 v (k0_pay11 q k) (ix2 i d) = localHead q k v 512 (by norm_num) i d := by
  pointwise [k0_pay12, k0_pay11]
  rfl
theorem head5 : k0_pay13 q k v (ix2 i d) = localHead q k v 640 (by norm_num) i d := by
  pointwise [k0_pay13]
  rfl
theorem head6 : k0_pay14 q k v (ix2 i d) = localHead q k v 768 (by norm_num) i d := by
  pointwise [k0_pay14]
  rfl
theorem head7 : Ideal.div (k0_pay16 q k v (ix2 i d)) (k0_pay17 q k (ix2 i d)) = localHead q k v 896 (by norm_num) i d := by
  pointwise [k0_pay16, k0_pay17, k0_pay15]
  rfl

end Heads

/-- A sum over 1024 positions is the sum over eight blocks of 128. -/
theorem sum_eight (f : Fin 1024 → EReal) : ∑ n, f n = ∑ h : Fin 8, ∑ d : Fin 128, f ⟨128 * h.val + d.val, by omega⟩ := by
  let g : ℕ → EReal := fun n => if hn : n < 1024 then f ⟨n, hn⟩ else 0
  have e₀ : ∑ n, f n = ∑ n : Fin (8 * 128), g n.val :=
    Finset.sum_congr rfl fun n _ => by simp only [g]; rw [dif_pos n.isLt]
  rw [e₀, sum_blocks 8 128]
  refine Finset.sum_congr rfl fun h _ => Finset.sum_congr rfl fun d _ => ?_
  simp only [g]
  rw [dif_pos (by omega)]

set_option maxHeartbeats 2000000 in
/-- The projection of eight blocks side by side is the sum of the eight projections. -/
theorem project (p₀ p₁ p₂ p₃ p₄ p₅ p₆ : FVec Ideal S256x128 .bf16) (n₇ d₇ : FVec Ideal S256x128 .f32) (wo : Vec Ideal S1024x1024 .f32)
    (H : Fin 8 → Fin 128 → EReal) (i : Fin 256) (o : Fin 1024)
    (h₀ : ∀ d, p₀ (ix2 i d) = H 0 d) (h₁ : ∀ d, p₁ (ix2 i d) = H 1 d) (h₂ : ∀ d, p₂ (ix2 i d) = H 2 d) (h₃ : ∀ d, p₃ (ix2 i d) = H 3 d)
    (h₄ : ∀ d, p₄ (ix2 i d) = H 4 d) (h₅ : ∀ d, p₅ (ix2 i d) = H 5 d) (h₆ : ∀ d, p₆ (ix2 i d) = H 6 d)
    (h₇ : ∀ d, Ideal.div (n₇ (ix2 i d)) (d₇ (ix2 i d)) = H 7 d) :
    k0_pay18 p₀ p₁ p₂ p₃ p₄ p₅ p₆ n₇ d₇ wo (ix2 i o) = ∑ h : Fin 8, ∑ d : Fin 128, H h d * wo (ix2 ⟨128 * h.val + d.val, by omega⟩ o) := by
  pointwise [k0_pay18]
  rw [sum_eight]
  refine Finset.sum_congr rfl fun h _ => Finset.sum_congr rfl fun d _ => ?_
  refine congrArg (· * _) ?_
  simp only [h₀, h₁, h₂, h₃, h₄, h₅, h₆, h₇]
  fin_cases h <;> dsimp only <;>
    (repeat' (split; first | (exfalso; omega) | exact congrArg (H _) (Fin.ext (by (try dsimp only) <;> omega)))) <;>
    first | (exfalso; omega) | exact congrArg (H _) (Fin.ext (by (try dsimp only) <;> omega))

end Cert.KernelIdeal.Exchange
-- ==== Proof.KerValue.lean ====
/-
# What the kernel computes, over extended reals

Each device's partial product at an index is its share of the output (`Cert.Attention.share`) when its arguments are its parts
of the whole ones, so every device's total is the whole output.
-/
module

public import proofs.«01_k».proof.Proof.KerHeads
public import proofs.«01_k».proof.Proof.Body
public import Idealize.ShloMosaic.Lib.Layout

@[expose] public section

noncomputable section

namespace Cert.KernelIdeal.Exchange

open Cert.KernelIdeal Cert.KernelIdeal.Gen Cert.Attention
open Idealize.ShloMosaic
open Idealize.ShloMosaic.TcCoe
open scoped BigOperators

variable (m : (ℓ : Loc nD τ sig) → Buf (Elt Ideal) ℓ) (c : Dev nD)

/-- Column `n` of device `c`'s block, -/
theorem col_lt (c : Dev nD) (n : Fin 1024) : 1024 * c.val + n.val < 4096 := by
  have hc : c.val < 4 := c.isLt
  omega
/-- its head `h`, -/
theorem head_lt (c : Dev nD) (h : Fin 8) : 8 * c.val + h.val < 32 := by
  have hc : c.val < 4 := c.isLt
  omega
/-- and that head's keys and values are among the whole ones. -/
theorem group_lt (c : Dev nD) (h : Fin 8) : (8 * c.val + h.val) / 4 < 8 := by
  have := head_lt c h
  omega

/-- A rank-two index among the keys or values of one head, as an index of the array with its unit axes. -/
theorem unsqueeze (hn : (⟨4, ![1, 4096, 1, 128]⟩ : Shape).numel = (⟨2, ![4096, 128]⟩ : Shape).numel) (j : Fin 4096) (e : Fin 128) :
    Shape.reshapeEquiv (s := ⟨4, ![1, 4096, 1, 128]⟩) (s' := ⟨2, ![4096, 128]⟩) hn (ix2 j e) = ix4 0 j 0 e := by
  pointwise []

/-- Device `c`'s copy of the input at an index. -/
theorem xIn_apply (i : Fin 256) (e : Fin 1024) :
    xIn m c (ix2 i e) = m ((c : Thread nD τ).loc main_arg0) (ix3 0 i e) := by
  have h : (Shape.reshapeEquiv (s := ⟨3, ![1, 256, 1024]⟩) (s' := ⟨2, ![256, 1024]⟩) rfl (ix2 i e)) = ix3 0 i e := by
    pointwise []
  show m ((c : Thread nD τ).loc main_arg0) ((Rect.unit (s := S1x256x1024) ![0, 0, 0] S1x256x1024.size inb_S1x256x1024_S1x256x1024_0_0_0).emb
    (Shape.reshapeEquiv (s := ⟨3, ![1, 256, 1024]⟩) (s' := ⟨2, ![256, 1024]⟩) rfl (ix2 i e))) = _
  rw [h]
  refine congrArg _ (funext fun a => Fin.ext ?_)
  fin_cases a <;> simp [Rect.emb, Rect.unit]

/-- The head of the keys, or of the values, that device `c` reads into slot `r`. -/
theorem off1_eq (c : Dev nD) (r : Fin 2) : k0_off1 c (BitVec.ofNat 32 r.val) = ![0, 0, 2 * c.val + r.val, 0] := by
  revert c r
  decide

/-- Slot `r` of the keys on device `c` at an index. -/
theorem kIn_apply (r : Fin 2) (j : Fin 4096) (e : Fin 128) (g : Fin 8) (hg : g.val = 2 * c.val + r.val) :
    kIn m c r (ix2 j e) = m ((c : Thread nD τ).loc main_arg2) (ix4 0 j g e) := by
  have h : Shape.reshapeEquiv (s := ⟨4, ![1, 4096, 1, 128]⟩) (s' := ⟨2, ![4096, 128]⟩) squeezes_S1x4096x1x128_S4096x128.numel_eq (ix2 j e) = ix4 0 j 0 e :=
    unsqueeze _ j e
  show m ((c : Thread nD τ).loc main_arg2) ((Rect.unit (s := S1x4096x8x128) (k0_off1 c (BitVec.ofNat 32 r.val)) S1x4096x1x128.size (k0_off1_inb c r)).emb
    (Shape.reshapeEquiv (s := ⟨4, ![1, 4096, 1, 128]⟩) (s' := ⟨2, ![4096, 128]⟩) squeezes_S1x4096x1x128_S4096x128.numel_eq (ix2 j e))) = _
  rw [h]
  refine congrArg _ (funext fun a => Fin.ext ?_)
  have ho := congrFun (off1_eq c r)
  fin_cases a <;> simp [Rect.emb, Rect.unit, ho, hg]

/-- Slot `r` of the values on device `c` at an index. -/
theorem vIn_apply (r : Fin 2) (j : Fin 4096) (e : Fin 128) (g : Fin 8) (hg : g.val = 2 * c.val + r.val) :
    vIn m c r (ix2 j e) = m ((c : Thread nD τ).loc main_arg3) (ix4 0 j g e) := by
  have h : Shape.reshapeEquiv (s := ⟨4, ![1, 4096, 1, 128]⟩) (s' := ⟨2, ![4096, 128]⟩) squeezes_S1x4096x1x128_S4096x128.numel_eq (ix2 j e) = ix4 0 j 0 e :=
    unsqueeze _ j e
  show m ((c : Thread nD τ).loc main_arg3) ((Rect.unit (s := S1x4096x8x128) (k0_off1 c (BitVec.ofNat 32 r.val)) S1x4096x1x128.size (k0_off1_inb c r)).emb
    (Shape.reshapeEquiv (s := ⟨4, ![1, 4096, 1, 128]⟩) (s' := ⟨2, ![4096, 128]⟩) squeezes_S1x4096x1x128_S4096x128.numel_eq (ix2 j e))) = _
  rw [h]
  refine congrArg _ (funext fun a => Fin.ext ?_)
  have ho := congrFun (off1_eq c r)
  fin_cases a <;> simp [Rect.emb, Rect.unit, ho, hg]

/-- What device `c`'s argument buffers hold of the whole arguments: the input, the keys and the values whole, its block of
    columns of the query weights and its block of rows of the output weights. -/
structure Holds (x : XS.Idx → EReal) (wq : QS.Idx → EReal) (k v : KS.Idx → EReal) (wo : OS.Idx → EReal) : Prop where
  input : m ((c : Thread nD τ).loc main_arg0) = x
  queryWeights : m ((c : Thread nD τ).loc main_arg1) = Layout.block ⟨2, ![1024, 1024]⟩ ⟨2, ![1024, 4096]⟩ 1 4 c wq
  allKeys : m ((c : Thread nD τ).loc main_arg2) = k
  allVals : m ((c : Thread nD τ).loc main_arg3) = v
  outputWeights : m ((c : Thread nD τ).loc main_arg4) = Layout.block ⟨2, ![1024, 1024]⟩ ⟨2, ![4096, 1024]⟩ 0 4 c wo

section Holds

variable {m c}
variable {x : XS.Idx → EReal} {wq : QS.Idx → EReal} {k v : KS.Idx → EReal} {wo : OS.Idx → EReal} (H : Holds m c x wq k v wo)
include H

/-- A query element of device `c`: column `n` of its block is column `1024 c + n` of the whole. -/
theorem queries_apply (i : Fin 256) (n : Fin 1024) :
    queries m c (ix2 i n) = query x wq i ⟨1024 * c.val + n.val, col_lt c n⟩ * scale := by
  have h₀ : ∀ (a : Vec Ideal S256x1024 .f32) (b : Vec Ideal S1024x1024 .f32),
      k0_pay1 a b (ix2 i n) = (∑ e : Fin 1024, a (ix2 i e) * b (ix2 e n)) * scale := by
    intro a b
    pointwise [k0_pay1]
  rw [queries, h₀, query]
  refine congrArg (· * scale) (Finset.sum_congr rfl fun e _ => ?_)
  rw [xIn_apply, H.input, wqIn, H.queryWeights, Layout.block_apply]
  refine congrArg (_ * wq ·) (funext fun a => Fin.ext ?_)
  fin_cases a <;> simp [Layout.Tiles.idx, mul_comm]

/-- A local head of device `c` is head `8 c + h` of the whole. -/
theorem localHead_eq (h : Fin 8) (r : Fin 2) (hr : r.val = h.val / 4) (i : Fin 256) (d : Fin 128) (o : ℕ) (ho : o + 128 ≤ 1024) (ho' : o = 128 * h.val) :
    localHead (queries m c) (keys m c r) (vals m c r) o ho i d = head x wq k v i ⟨8 * c.val + h.val, head_lt c h⟩ d := by
  subst ho'
  have hg : (⟨(8 * c.val + h.val) / 4, group_lt c h⟩ : Fin 8).val = 2 * c.val + r.val := by
    have hc : c.val < 4 := c.isLt
    show (8 * c.val + h.val) / 4 = _
    omega
  have hk : ∀ (j : Fin 4096) (e : Fin 128), keys m c r (ix2 j e) = k (ix4 0 j ⟨(8 * c.val + h.val) / 4, group_lt c h⟩ e) := fun j e => by
    rw [← H.allKeys, ← kIn_apply m c r j e _ hg]; rfl
  have hv : ∀ (j : Fin 4096) (e : Fin 128), vals m c r (ix2 j e) = v (ix4 0 j ⟨(8 * c.val + h.val) / 4, group_lt c h⟩ e) := fun j e => by
    rw [← H.allVals, ← vIn_apply m c r j e _ hg]; rfl
  rw [localHead, head]
  refine congrArg₂ soft (funext fun j => ?_) (funext fun j => hv j d)
  rw [score, ← dot_scale]
  refine Finset.sum_congr rfl fun e _ => ?_
  rw [queries_apply H, hk]
  refine congrArg (fun n => query x wq i n * scale * _) (Fin.ext ?_)
  show 1024 * c.val + (128 * h.val + e.val) = (8 * c.val + h.val) * 128 + e.val
  omega

/-- Device `c`'s partial product is its share of the output. -/
theorem partialOut_apply (i : Fin 256) (o : Fin 1024) : partialOut m c (ix2 i o) = share x wq k v wo c i o := by
  rw [partialOut, partialOf,
    project _ _ _ _ _ _ _ _ _ _ (fun h d => head x wq k v i ⟨8 * c.val + h.val, head_lt c h⟩ d) i o
      (fun d => (head0 ..).trans (localHead_eq H 0 0 rfl i d _ _ rfl)) (fun d => (head1 ..).trans (localHead_eq H 1 0 rfl i d _ _ rfl))
      (fun d => (head2 ..).trans (localHead_eq H 2 0 rfl i d _ _ rfl)) (fun d => (head3 ..).trans (localHead_eq H 3 0 rfl i d _ _ rfl))
      (fun d => (head4 ..).trans (localHead_eq H 4 1 rfl i d _ _ rfl)) (fun d => (head5 ..).trans (localHead_eq H 5 1 rfl i d _ _ rfl))
      (fun d => (head6 ..).trans (localHead_eq H 6 1 rfl i d _ _ rfl)) (fun d => (head7 ..).trans (localHead_eq H 7 1 rfl i d _ _ rfl)),
    share]
  refine Finset.sum_congr rfl fun h _ => Finset.sum_congr rfl fun d _ =>
    congrArg (fun z => head x wq k v i ⟨8 * c.val + h.val, head_lt c h⟩ d * z) ?_
  rw [woIn, H.outputWeights, Layout.block_apply]
  refine congrArg wo (funext fun a => Fin.ext ?_)
  fin_cases a <;> simp [Layout.Tiles.idx, mul_comm]

/-- What device `c` sends is its share too: the cast leaves an extended real as it is. -/
theorem sentOut_apply (i : Fin 256) (o : Fin 1024) : sentOut m c (ix2 i o) = share x wq k v wo c i o := by
  rw [← partialOut_apply H]
  unfold sentOut
  generalize partialOut m c = p
  pointwise []

end Holds

/-- Every device's total is the whole output. -/
theorem total_apply {x : XS.Idx → EReal} {wq : QS.Idx → EReal} {k v : KS.Idx → EReal} {wo : OS.Idx → EReal} (H : ∀ c, Holds m c x wq k v wo)
    (i : Fin 256) (o : Fin 1024) : total m c (ix3 0 i o) = output x wq k v wo i o := by
  have h₀ : ∀ (p : FVec Ideal S256x1024 .f32) (r₀ r₁ r₂ : FVec Ideal S256x1024 .bf16),
      totalOf p r₀ r₁ r₂ (ix3 0 i o) = p (ix2 i o) + r₀ (ix2 i o) + r₁ (ix2 i o) + r₂ (ix2 i o) := by
    intro p r₀ r₁ r₂
    pointwise [totalOf]
  rw [total, h₀, partialOut_apply (H c), sentOut_apply (H _), sentOut_apply (H _), sentOut_apply (H _), output_eq, Fin.sum_univ_four]
  fin_cases c
  · show share x wq k v wo 0 i o + share x wq k v wo 3 i o + share x wq k v wo 2 i o + share x wq k v wo 1 i o = _
    abel
  · show share x wq k v wo 1 i o + share x wq k v wo 0 i o + share x wq k v wo 3 i o + share x wq k v wo 2 i o = _
    abel
  · show share x wq k v wo 2 i o + share x wq k v wo 1 i o + share x wq k v wo 0 i o + share x wq k v wo 3 i o = _
    abel
  · show share x wq k v wo 3 i o + share x wq k v wo 2 i o + share x wq k v wo 1 i o + share x wq k v wo 0 i o = _
    abel

end Cert.KernelIdeal.Exchange
-- ==== Proof.RefValue.lean ====
/-
# What the reference computes

The reference's result at an index, read as the sum of `Cert.Attention.output`. Its scores, exponentials and heads are named
first, each as the reference writes it.
-/
module

public import proofs.«01_k».proof.Proof.Math
public import proofs.«01_k».proof.Proof.Gen.ReferenceIdeal.Run

@[expose] public section

noncomputable section

namespace Cert.ReferenceIdeal.Attention

open Cert.ReferenceIdeal Cert.ReferenceIdeal.Gen Cert.Attention
open Idealize.ShloMosaic
open scoped BigOperators

variable (x : FVec Ideal S1x256x1024 .f32) (wq : FVec Ideal S1024x4096 .f32) (k v : FVec Ideal S1x4096x8x128 .f32) (wo : FVec Ideal S4096x1024 .f32)

/-- The scaled scores of all heads. -/
def scores : FVec Ideal S1x32x256x4096 .f32 :=
  mulf (Host.dotGeneral dot_S1x256x32x128_S1x4096x32x128_S1x32x256x4096_3_3_1_1_02_02 none
      (shapeCast _ (Host.dotGeneral dot_S1x256x1024_S1024x4096_S1x256x4096_2_0_01_1_n_n none x wq) shapeCasts_S1x256x4096_S1x256x32x128)
      (shapeCast _ (broadcastInDim S1x4096x8x4x128 ![0, 1, 2, 4] bcast_S1x4096x8x128_S1x4096x8x4x128_0_1_2_4 k) shapeCasts_S1x4096x8x4x128_S1x4096x32x128))
    (broadcastInDim S1x32x256x4096 ![] bcast_S_S1x32x256x4096 (constant S_ .f32 0x3DB504F3#32))

/-- The exponentials of the scores less each row's largest. -/
def weights (s : FVec Ideal S1x32x256x4096 .f32) : FVec Ideal S1x32x256x4096 .f32 :=
  Host.exp (subf s (broadcastInDim S1x32x256x4096 ![0, 1, 2, 3] bcast_S1x32x256x1_S1x32x256x4096_0_1_2_3
    (broadcastInDim S1x32x256x1 ![0, 1, 2] bcast_S1x32x256_S1x32x256x1_0_1_2
      (Host.reduce FloatOps.maximumf s (constant S_ .f32 0xFF800000#32) reducesTo_S1x32x256x4096_S1x32x256_d3 h_S_))))

/-- The heads' outputs side by side, from the weights and the values. -/
def heads (p : FVec Ideal S1x32x256x4096 .f32) : FVec Ideal S1x256x4096 .f32 :=
  shapeCast _ (Host.divf
      (transpose S1x256x32x128 [0, 3, 1, 2]
        (Host.dotGeneral dot_S1x4096x32x128_S1x32x256x4096_S1x32x128x256_1_3_3_2_02_01 none
          (shapeCast _ (broadcastInDim S1x4096x8x4x128 ![0, 1, 2, 4] bcast_S1x4096x8x128_S1x4096x8x4x128_0_1_2_4 v) shapeCasts_S1x4096x8x4x128_S1x4096x32x128) p)
        transposes_S1x32x128x256_S1x256x32x128_0_3_1_2)
      (broadcastInDim S1x256x32x128 ![0, 1, 2, 3] bcast_S1x256x32x1_S1x256x32x128_0_1_2_3
        (transpose S1x256x32x1 [0, 2, 1, 3]
          (broadcastInDim S1x32x256x1 ![0, 1, 2] bcast_S1x32x256_S1x32x256x1_0_1_2
            (Host.reduceAdd p (constant S_ .f32 0x00000000#32) reducesTo_S1x32x256x4096_S1x32x256_d3 h_S_))
          transposes_S1x32x256x1_S1x256x32x1_0_2_1_3)))
    shapeCasts_S1x256x32x128_S1x256x4096

/-- The reference's result as one term of its five arguments. -/
def result : FVec Ideal S1x256x1024 .f32 :=
  Host.dotGeneral dot_S1x256x4096_S4096x1024_S1x256x1024_2_0_01_1_n_n none (heads v (weights (scores x wq k))) wo

/-- A score at an index. -/
theorem scores_apply (h : Fin 32) (i : Fin 256) (j : Fin 4096) : scores x wq k (ix4 0 h i j) = score x wq k h i j := by
  pointwise [scores]
  rfl

/-- A weight at an index. -/
theorem weights_apply (s : FVec Ideal S1x32x256x4096 .f32) (h : Fin 32) (i : Fin 256) (j : Fin 4096) :
    weights s (ix4 0 h i j) = Ideal.exp (s (ix4 0 h i j) - top fun j => s (ix4 0 h i j)) := by
  pointwise [weights]
  rfl

/-- An element of the heads' outputs: position `n % 128` of head `n / 128`. -/
theorem heads_apply (i : Fin 256) (n : Fin 4096) :
    heads v (weights (scores x wq k)) (ix3 0 i n)
      = head x wq k v i ⟨n.val / 128, by omega⟩ ⟨n.val % 128, Nat.mod_lt _ (by norm_num)⟩ := by
  have h₀ : ∀ p : FVec Ideal S1x32x256x4096 .f32, heads v p (ix3 0 i n)
      = Ideal.div (∑ j : Fin 4096, p (ix4 0 ⟨n.val / 128, by omega⟩ i j) * v (ix4 0 j ⟨n.val / 128 / 4, by omega⟩ ⟨n.val % 128, Nat.mod_lt _ (by norm_num)⟩))
        (∑ j : Fin 4096, p (ix4 0 ⟨n.val / 128, by omega⟩ i j)) := by
    intro p
    pointwise [heads]
    exact congrArg₂ Ideal.div (Finset.sum_congr rfl fun j _ => mul_comm _ _) rfl
  rw [h₀]
  simp only [weights_apply, scores_apply]
  rfl

/-- An element of the result. -/
theorem result_apply (i : Fin 256) (o : Fin 1024) : result x wq k v wo (ix3 0 i o) = output x wq k v wo i o := by
  have h₀ : ∀ a : FVec Ideal S1x256x4096 .f32,
      Host.dotGeneral dot_S1x256x4096_S4096x1024_S1x256x1024_2_0_01_1_n_n none a wo (ix3 0 i o) = ∑ n : Fin 4096, a (ix3 0 i n) * wo (ix2 n o) := by
    intro a
    pointwise []
  rw [result, h₀]
  simp only [heads_apply]
  rfl

open Idealize.ShloMosaic.TcCoe Idealize.SL.Sem

/-- The reference ends with its result array at `result` of its arguments, its arguments unchanged and its counters at zero. -/
theorem run_main (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_v22)
            = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => ⟨(h c).1, (h c).2⟩, sem_eq_zero_of_no_sems (by decide) r.2⟩)
    (Cert.ReferenceIdeal.Value.run m ρ)

end Cert.ReferenceIdeal.Attention
-- ==== Proof.lean ====
/-
# The certificate

The two kernel frames and the value claim come from one run theorem (`Cert.KernelIdeal.Exchange.run_main` over any float values,
and its twin for `Kernel`); the reference's frame and its value from `Cert.ReferenceIdeal.Attention.run_main`.
-/
module

public import proofs.«01_k».proof.Defs
public import proofs.«01_k».proof.Proof.Run
public import proofs.«01_k».proof.Proof.KerValue
public import proofs.«01_k».proof.Proof.RefValue
public import proofs.«01_k».proof.Proof.Bits.Run

@[expose] public section

noncomputable section

namespace Cert.Proof

open Idealize.ShloMosaic Idealize.SL.Sem Cert.Attention

/-- The kernel's frame: it ends with its arguments unchanged and its counters at zero. -/
theorem frame_kernel : Cert.quiescent_Kernel := fun m g _ =>
  (θ_run Cert.Kernel.defs _ _).mono (fun _ h => ⟨fun c => Cert.Kernel.Exchange.ends_args m h.1 c, h.2⟩)
    (Cert.Kernel.Exchange.run_main m g)

/-- The idealized kernel's frame. -/
theorem frame_ideal : Cert.quiescent_KernelIdeal := fun m g _ =>
  (θ_run Cert.KernelIdeal.defs _ _).mono (fun _ h => ⟨fun c => Cert.KernelIdeal.Exchange.ends_args m h.1 c, h.2⟩)
    (Cert.KernelIdeal.Exchange.run_main m g)

/-- The reference's frame. -/
theorem frame_reference : Cert.quiescent_ReferenceIdeal := fun m g _ =>
  (θ_run Cert.ReferenceIdeal.defs _ _).mono (fun _ h => ⟨fun c => (h.1 c).2, h.2⟩)
    (Cert.ReferenceIdeal.Attention.run_main m g)

/-- Every device's result is the reference's result: at each index both are the attention's output of the whole arguments. -/
theorem value {m : (ℓ : Loc Cert.KernelIdeal.nD Cert.KernelIdeal.τ Cert.KernelIdeal.sig) → Buf (Elt Ideal) ℓ} (c : Dev Cert.KernelIdeal.nD)
    {x : XS.Idx → EReal} {wq : QS.Idx → EReal} {k v : KS.Idx → EReal} {wo : OS.Idx → EReal}
    (H : ∀ c, Cert.KernelIdeal.Exchange.Holds m c x wq k v wo) :
    Cert.KernelIdeal.Exchange.total m c = Cert.ReferenceIdeal.Attention.result x wq k v wo := by
  funext j
  obtain ⟨b, i, o, rfl⟩ : ∃ (b : Fin 1) (i : Fin 256) (o : Fin 1024), j = ix3 b i o := ⟨j 0, j 1, j 2, eq_ix3 j⟩
  obtain rfl : b = 0 := Subsingleton.elim _ _
  exact (Cert.KernelIdeal.Exchange.total_apply m c H i o).trans (Cert.ReferenceIdeal.Attention.result_apply x wq k v wo i o).symm

/-- The value claim: from arguments that are the devices' parts of the reference's, every device ends with the reference's
    result. -/
theorem algebraic : Cert.algebraic_KernelIdeal_ReferenceIdeal := by
  intro m g m' g' _ hagree
  have H : ∀ c, Cert.KernelIdeal.Exchange.Holds m c _ _ _ _ _ := fun c =>
    ⟨(hagree c).1, (hagree c).2.1, (hagree c).2.2.1, (hagree c).2.2.2.1, (hagree c).2.2.2.2⟩
  refine ⟨_,
    (θ_run Cert.KernelIdeal.defs _ _).mono
      (fun _ h c => ⟨(h.1 c).1.trans (value c H), Cert.KernelIdeal.Exchange.ends_args m h.1 c⟩)
      (Cert.KernelIdeal.Exchange.run_main m g),
    (θ_run Cert.ReferenceIdeal.defs _ _).mono (fun _ h => h.1 0) (Cert.ReferenceIdeal.Attention.run_main m' g')⟩

/-- All five claims; `preserves` has no rewrite to justify. -/
theorem claim : Cert.Claim := ⟨Cert.Kernel.Gen.facts, Cert.KernelIdeal.Gen.facts, Cert.ReferenceIdeal.Gen.facts,
  frame_kernel, frame_ideal, frame_reference, trivial, algebraic⟩

end Cert.Proof

end
